-- ==== Defs.lean ====
def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_Kernel (m : (ℓ : Loc Cert.Kernel.nD Cert.Kernel.τ Cert.Kernel.sig) → Buf (Elt Bits) ℓ) : Prop :=
  True

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)) →
    ∃ (v0 : (c : Dev Cert.KernelWIdeal.nD) → Buf (Elt Ideal) ((c.tc : Thread Cert.KernelWIdeal.nD Cert.KernelWIdeal.τ).loc Cert.KernelWIdeal.main_v3)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v3) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v198) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2))

def Claim : Prop :=
  ∃ (hKernelW : Cert.KernelW.Facts) (hKernelWIdeal : Cert.KernelWIdeal.Facts) (hReferenceWIdeal : Cert.ReferenceWIdeal.Facts) (hKernel : Cert.Kernel.Facts),
    quiescent_KernelW (hKernelW := hKernelW)
    ∧ quiescent_KernelWIdeal (hKernelWIdeal := hKernelWIdeal)
    ∧ quiescent_ReferenceWIdeal (hReferenceWIdeal := hReferenceWIdeal)
    ∧ quiescent_Kernel (hKernel := hKernel)
    ∧ preserves_KernelW_KernelWIdeal
    ∧ algebraic_KernelWIdeal_ReferenceWIdeal (hKernelWIdeal := hKernelWIdeal) (hReferenceWIdeal := hReferenceWIdeal)
-- ==== KernelW.lean ====
abbrev S8x32x128x128 : Shape := ⟨4, ![8, 32, 128, 128]⟩
abbrev S1x128 : Shape := ⟨2, ![1, 128]⟩
abbrev S3x3x3 : Shape := ⟨3, ![3, 3, 3]⟩
abbrev S32768x128 : Shape := ⟨2, ![32768, 128]⟩
abbrev S2 : Shape := ⟨1, ![2]⟩
abbrev S1x32768x128 : Shape := ⟨3, ![1, 32768, 128]⟩
abbrev S1 : Shape := ⟨1, ![1]⟩
abbrev S1x1x1 : Shape := ⟨3, ![1, 1, 1]⟩
abbrev S27 : Shape := ⟨1, ![27]⟩
abbrev S1x32x128x128 : Shape := ⟨4, ![1, 32, 128, 128]⟩
abbrev S32x128x128 : Shape := ⟨3, ![32, 128, 128]⟩
abbrev S128 : Shape := ⟨1, ![128]⟩
abbrev S1x1x128 : Shape := ⟨3, ![1, 1, 128]⟩
abbrev S1x128x128 : Shape := ⟨3, ![1, 128, 128]⟩
abbrev S31x128x128 : Shape := ⟨3, ![31, 128, 128]⟩
abbrev S32x128x128x1 : Shape := ⟨4, ![32, 128, 128, 1]⟩

abbrev nBuf : Space → Nat
  | .hbm => 7
  | .vmem => 6
  | .smem => 3
  | _ => 0

abbrev bufTy : (tb : Table) → Fin (tcTables nBuf tb) → BufTy
  | .hbm, ⟨0, _⟩ => ⟨S8x32x128x128, .f32⟩
  | .hbm, ⟨1, _⟩ => ⟨S1x128, .i32⟩
  | .hbm, ⟨2, _⟩ => ⟨S3x3x3, .f32⟩
  | .hbm, ⟨3, _⟩ => ⟨S32768x128, .f32⟩
  | .hbm, ⟨4, _⟩ => ⟨S2, .f32⟩
  | .hbm, ⟨5, _⟩ => ⟨S27, .f32⟩
  | .hbm, ⟨6, _⟩ => ⟨S8x32x128x128, .f32⟩
  | .local _ .vmem, ⟨0, _⟩ => ⟨S32768x128, .f32⟩
  | .local _ .vmem, ⟨1, _⟩ => ⟨S1x128, .i32⟩
  | .local _ .vmem, ⟨2, _⟩ => ⟨S1x32x128x128, .f32⟩
  | .local _ .vmem, ⟨3, _⟩ => ⟨S1x32x128x128, .f32⟩
  | .local _ .vmem, ⟨4, _⟩ => ⟨S1x32x128x128, .f32⟩
  | .local _ .vmem, ⟨5, _⟩ => ⟨S1x32x128x128, .f32⟩
  | .local _ .smem, ⟨0, _⟩ => ⟨S2, .f32⟩
  | .local _ .smem, ⟨1, _⟩ => ⟨S2, .f32⟩
  | .local _ .smem, ⟨2, _⟩ => ⟨S27, .f32⟩
  | _, _ => ⟨S8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg4_0 : Ref sig .tc := ⟨.vmem, 4, rfl⟩
abbrev cc1_stg4_1 : Ref sig .tc := ⟨.vmem, 5, rfl⟩
abbrev cc0_stg1_0 : Ref sig .tc := ⟨.smem, 0, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6
abbrev cc1_sem4_0 : DmaSem sig := 7
abbrev cc1_sem4_1 : DmaSem sig := 8

abbrev nD : Nat := 1
abbrev τ : Topo := Topo.v7x

variable {F : FTy → Type} [FloatOps F]

abbrev grid0 : Pipeline.Grid := .none

abbrev stage0_0 : Fin 1 → Memref sig .tc .vmem S32768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S27 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x32x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceWIdeal.lean ====
abbrev S8x32x128x128 : Shape := ⟨4, ![8, 32, 128, 128]⟩
abbrev S1x128 : Shape := ⟨2, ![1, 128]⟩
abbrev S3x3x3 : Shape := ⟨3, ![3, 3, 3]⟩
abbrev S_ : Shape := ⟨0, ![]⟩
abbrev S1x128x1 : Shape := ⟨3, ![1, 128, 1]⟩
abbrev S1x128x2 : Shape := ⟨3, ![1, 128, 2]⟩
abbrev S16x16 : Shape := ⟨2, ![16, 16]⟩
abbrev S8x32x128x128x1 : Shape := ⟨5, ![8, 32, 128, 128, 1]⟩
abbrev S16x8x32x128x128 : Shape := ⟨5, ![16, 8, 32, 128, 128]⟩
abbrev S1x8x32x128x128 : Shape := ⟨5, ![1, 8, 32, 128, 128]⟩
abbrev S8x16x32x128x128 : Shape := ⟨5, ![8, 16, 32, 128, 128]⟩
abbrev S8x16x34x130x130 : Shape := ⟨5, ![8, 16, 34, 130, 130]⟩
abbrev S1x1x1 : Shape := ⟨3, ![1, 1, 1]⟩
abbrev S8x1x32x128x128 : Shape := ⟨5, ![8, 1, 32, 128, 128]⟩
abbrev S8x1x32x128x128x1 : Shape := ⟨6, ![8, 1, 32, 128, 128, 1]⟩
abbrev S1 : Shape := ⟨1, ![1]⟩
abbrev S1x1x1x1x1x1 : Shape := ⟨6, ![1, 1, 1, 1, 1, 1]⟩

abbrev nBuf : Space → Nat
  | .hbm => 240
  | .vmem => 0
  | .smem => 0
  | _ => 0

abbrev hbmTy0_0 (i : Nat) : BufTy := match i % 128 with
  | 0 => ⟨S8x32x128x128, .f32⟩
  | 1 => ⟨S1x128, .i32⟩
  | 2 => ⟨S3x3x3, .f32⟩
  | 3 => ⟨S_, .i32⟩
  | 4 => ⟨S1x128, .i32⟩
  | 5 => ⟨S1x128, .i32⟩
  | 6 => ⟨S1x128, .f32⟩
  | 7 => ⟨S_, .i32⟩
  | 8 => ⟨S1x128, .i32⟩
  | 9 => ⟨S1x128, .i32⟩
  | 10 => ⟨S1x128, .f32⟩
  | 11 => ⟨S1x128x1, .f32⟩
  | 12 => ⟨S1x128x1, .f32⟩
  | 13 => ⟨S1x128x2, .f32⟩
  | 14 => ⟨S16x16, .f32⟩
  | 15 => ⟨S_, .f32⟩
  | 16 => ⟨S_, .f32⟩
  | 17 => ⟨S_, .f32⟩
  | 18 => ⟨S_, .f32⟩
  | 19 => ⟨S8x32x128x128, .f32⟩
  | 20 => ⟨S8x32x128x128, .f32⟩
  | 21 => ⟨S8x32x128x128, .f32⟩
  | 22 => ⟨S8x32x128x128, .f32⟩
  | 23 => ⟨S_, .f32⟩
  | 24 => ⟨S8x32x128x128, .f32⟩
  | 25 => ⟨S8x32x128x128, .f32⟩
  | 26 => ⟨S8x32x128x128, .f32⟩
  | 27 => ⟨S8x32x128x128, .i32⟩
  | 28 => ⟨S_, .i32⟩
  | 29 => ⟨S_, .i32⟩
  | 30 => ⟨S_, .i32⟩
  | 31 => ⟨S8x32x128x128, .i32⟩
  | 32 => ⟨S8x32x128x128, .i32⟩
  | 33 => ⟨S_, .i32⟩
  | 34 => ⟨S8x32x128x128, .i32⟩
  | 35 => ⟨S8x32x128x128, .i32⟩
  | 36 => ⟨S_, .i32⟩
  | 37 => ⟨S8x32x128x128, .i32⟩
  | 38 => ⟨S8x32x128x128, .i1⟩
  | 39 => ⟨S_, .i32⟩
  | 40 => ⟨S8x32x128x128, .i32⟩
  | 41 => ⟨S8x32x128x128, .i32⟩
  | 42 => ⟨S8x32x128x128, .i32⟩
  | 43 => ⟨S8x32x128x128x1, .i32⟩
  | 44 => ⟨S16x8x32x128x128, .f32⟩
  | 45 => ⟨S1x8x32x128x128, .f32⟩
  | 46 => ⟨S16x8x32x128x128, .f32⟩
  | 47 => ⟨S16x8x32x128x128, .f32⟩
  | 48 => ⟨S8x16x32x128x128, .f32⟩
  | 49 => ⟨S_, .i32⟩
  | 50 => ⟨S_, .f32⟩
  | 51 => ⟨S8x16x34x130x130, .f32⟩
  | 52 => ⟨S_, .f32⟩
  | 53 => ⟨S8x16x32x128x128, .f32⟩
  | 54 => ⟨S1x1x1, .f32⟩
  | 55 => ⟨S_, .f32⟩
  | 56 => ⟨S8x16x32x128x128, .f32⟩
  | 57 => ⟨S8x16x32x128x128, .f32⟩
  | 58 => ⟨S8x16x32x128x128, .f32⟩
  | 59 => ⟨S8x16x32x128x128, .f32⟩
  | 60 => ⟨S1x1x1, .f32⟩
  | 61 => ⟨S_, .f32⟩
  | 62 => ⟨S8x16x32x128x128, .f32⟩
  | 63 => ⟨S8x16x32x128x128, .f32⟩
  | 64 => ⟨S8x16x32x128x128, .f32⟩
  | 65 => ⟨S8x16x32x128x128, .f32⟩
  | 66 => ⟨S1x1x1, .f32⟩
  | 67 => ⟨S_, .f32⟩
  | 68 => ⟨S8x16x32x128x128, .f32⟩
  | 69 => ⟨S8x16x32x128x128, .f32⟩
  | 70 => ⟨S8x16x32x128x128, .f32⟩
  | 71 => ⟨S8x16x32x128x128, .f32⟩
  | 72 => ⟨S1x1x1, .f32⟩
  | 73 => ⟨S_, .f32⟩
  | 74 => ⟨S8x16x32x128x128, .f32⟩
  | 75 => ⟨S8x16x32x128x128, .f32⟩
  | 76 => ⟨S8x16x32x128x128, .f32⟩
  | 77 => ⟨S8x16x32x128x128, .f32⟩
  | 78 => ⟨S1x1x1, .f32⟩
  | 79 => ⟨S_, .f32⟩
  | 80 => ⟨S8x16x32x128x128, .f32⟩
  | 81 => ⟨S8x16x32x128x128, .f32⟩
  | 82 => ⟨S8x16x32x128x128, .f32⟩
  | 83 => ⟨S8x16x32x128x128, .f32⟩
  | 84 => ⟨S1x1x1, .f32⟩
  | 85 => ⟨S_, .f32⟩
  | 86 => ⟨S8x16x32x128x128, .f32⟩
  | 87 => ⟨S8x16x32x128x128, .f32⟩
  | 88 => ⟨S8x16x32x128x128, .f32⟩
  | 89 => ⟨S8x16x32x128x128, .f32⟩
  | 90 => ⟨S1x1x1, .f32⟩
  | 91 => ⟨S_, .f32⟩
  | 92 => ⟨S8x16x32x128x128, .f32⟩
  | 93 => ⟨S8x16x32x128x128, .f32⟩
  | 94 => ⟨S8x16x32x128x128, .f32⟩
  | 95 => ⟨S8x16x32x128x128, .f32⟩
  | 96 => ⟨S1x1x1, .f32⟩
  | 97 => ⟨S_, .f32⟩
  | 98 => ⟨S8x16x32x128x128, .f32⟩
  | 99 => ⟨S8x16x32x128x128, .f32⟩
  | 100 => ⟨S8x16x32x128x128, .f32⟩
  | 101 => ⟨S8x16x32x128x128, .f32⟩
  | 102 => ⟨S1x1x1, .f32⟩
  | 103 => ⟨S_, .f32⟩
  | 104 => ⟨S8x16x32x128x128, .f32⟩
  | 105 => ⟨S8x16x32x128x128, .f32⟩
  | 106 => ⟨S8x16x32x128x128, .f32⟩
  | 107 => ⟨S8x16x32x128x128, .f32⟩
  | 108 => ⟨S1x1x1, .f32⟩
  | 109 => ⟨S_, .f32⟩
  | 110 => ⟨S8x16x32x128x128, .f32⟩
  | 111 => ⟨S8x16x32x128x128, .f32⟩
  | 112 => ⟨S8x16x32x128x128, .f32⟩
  | 113 => ⟨S8x16x32x128x128, .f32⟩
  | 114 => ⟨S1x1x1, .f32⟩
  | 115 => ⟨S_, .f32⟩
  | 116 => ⟨S8x16x32x128x128, .f32⟩
  | 117 => ⟨S8x16x32x128x128, .f32⟩
  | 118 => ⟨S8x16x32x128x128, .f32⟩
  | 119 => ⟨S8x16x32x128x128, .f32⟩
  | 120 => ⟨S1x1x1, .f32⟩
  | 121 => ⟨S_, .f32⟩
  | 122 => ⟨S8x16x32x128x128, .f32⟩
  | 123 => ⟨S8x16x32x128x128, .f32⟩
  | 124 => ⟨S8x16x32x128x128, .f32⟩
  | 125 => ⟨S8x16x32x128x128, .f32⟩
  | 126 => ⟨S1x1x1, .f32⟩
  | 127 => ⟨S_, .f32⟩
  | _ => ⟨S8x32x128x128, .f32⟩

abbrev hbmTy0_1 (i : Nat) : BufTy := match i % 128 with
  | 0 => ⟨S8x16x32x128x128, .f32⟩
  | 1 => ⟨S8x16x32x128x128, .f32⟩
  | 2 => ⟨S8x16x32x128x128, .f32⟩
  | 3 => ⟨S8x16x32x128x128, .f32⟩
  | 4 => ⟨S1x1x1, .f32⟩
  | 5 => ⟨S_, .f32⟩
  | 6 => ⟨S8x16x32x128x128, .f32⟩
  | 7 => ⟨S8x16x32x128x128, .f32⟩
  | 8 => ⟨S8x16x32x128x128, .f32⟩
  | 9 => ⟨S8x16x32x128x128, .f32⟩
  | 10 => ⟨S1x1x1, .f32⟩
  | 11 => ⟨S_, .f32⟩
  | 12 => ⟨S8x16x32x128x128, .f32⟩
  | 13 => ⟨S8x16x32x128x128, .f32⟩
  | 14 => ⟨S8x16x32x128x128, .f32⟩
  | 15 => ⟨S8x16x32x128x128, .f32⟩
  | 16 => ⟨S1x1x1, .f32⟩
  | 17 => ⟨S_, .f32⟩
  | 18 => ⟨S8x16x32x128x128, .f32⟩
  | 19 => ⟨S8x16x32x128x128, .f32⟩
  | 20 => ⟨S8x16x32x128x128, .f32⟩
  | 21 => ⟨S8x16x32x128x128, .f32⟩
  | 22 => ⟨S1x1x1, .f32⟩
  | 23 => ⟨S_, .f32⟩
  | 24 => ⟨S8x16x32x128x128, .f32⟩
  | 25 => ⟨S8x16x32x128x128, .f32⟩
  | 26 => ⟨S8x16x32x128x128, .f32⟩
  | 27 => ⟨S8x16x32x128x128, .f32⟩
  | 28 => ⟨S1x1x1, .f32⟩
  | 29 => ⟨S_, .f32⟩
  | 30 => ⟨S8x16x32x128x128, .f32⟩
  | 31 => ⟨S8x16x32x128x128, .f32⟩
  | 32 => ⟨S8x16x32x128x128, .f32⟩
  | 33 => ⟨S8x16x32x128x128, .f32⟩
  | 34 => ⟨S1x1x1, .f32⟩
  | 35 => ⟨S_, .f32⟩
  | 36 => ⟨S8x16x32x128x128, .f32⟩
  | 37 => ⟨S8x16x32x128x128, .f32⟩
  | 38 => ⟨S8x16x32x128x128, .f32⟩
  | 39 => ⟨S8x16x32x128x128, .f32⟩
  | 40 => ⟨S1x1x1, .f32⟩
  | 41 => ⟨S_, .f32⟩
  | 42 => ⟨S8x16x32x128x128, .f32⟩
  | 43 => ⟨S8x16x32x128x128, .f32⟩
  | 44 => ⟨S8x16x32x128x128, .f32⟩
  | 45 => ⟨S8x16x32x128x128, .f32⟩
  | 46 => ⟨S1x1x1, .f32⟩
  | 47 => ⟨S_, .f32⟩
  | 48 => ⟨S8x16x32x128x128, .f32⟩
  | 49 => ⟨S8x16x32x128x128, .f32⟩
  | 50 => ⟨S8x16x32x128x128, .f32⟩
  | 51 => ⟨S8x16x32x128x128, .f32⟩
  | 52 => ⟨S1x1x1, .f32⟩
  | 53 => ⟨S_, .f32⟩
  | 54 => ⟨S8x16x32x128x128, .f32⟩
  | 55 => ⟨S8x16x32x128x128, .f32⟩
  | 56 => ⟨S8x16x32x128x128, .f32⟩
  | 57 => ⟨S8x16x32x128x128, .f32⟩
  | 58 => ⟨S1x1x1, .f32⟩
  | 59 => ⟨S_, .f32⟩
  | 60 => ⟨S8x16x32x128x128, .f32⟩
  | 61 => ⟨S8x16x32x128x128, .f32⟩
  | 62 => ⟨S8x16x32x128x128, .f32⟩
  | 63 => ⟨S8x16x32x128x128, .f32⟩
  | 64 => ⟨S1x1x1, .f32⟩
  | 65 => ⟨S_, .f32⟩
  | 66 => ⟨S8x16x32x128x128, .f32⟩
  | 67 => ⟨S8x16x32x128x128, .f32⟩
  | 68 => ⟨S8x16x32x128x128, .f32⟩
  | 69 => ⟨S8x16x32x128x128, .f32⟩
  | 70 => ⟨S1x1x1, .f32⟩
  | 71 => ⟨S_, .f32⟩
  | 72 => ⟨S8x16x32x128x128, .f32⟩
  | 73 => ⟨S8x16x32x128x128, .f32⟩
  | 74 => ⟨S8x16x32x128x128, .f32⟩
  | 75 => ⟨S8x16x32x128x128, .f32⟩
  | 76 => ⟨S1x1x1, .f32⟩
  | 77 => ⟨S_, .f32⟩
  | 78 => ⟨S8x16x32x128x128, .f32⟩
  | 79 => ⟨S8x16x32x128x128, .f32⟩
  | 80 => ⟨S8x16x32x128x128, .f32⟩
  | 81 => ⟨S8x16x32x128x128, .f32⟩
  | 82 => ⟨S1x1x1, .f32⟩
  | 83 => ⟨S_, .f32⟩
  | 84 => ⟨S8x16x32x128x128, .f32⟩
  | 85 => ⟨S8x16x32x128x128, .f32⟩
  | 86 => ⟨S8x16x32x128x128, .f32⟩
  | 87 => ⟨S8x16x32x128x128, .f32⟩
  | 88 => ⟨S8x1x32x128x128, .i32⟩
  | 89 => ⟨S_, .i32⟩
  | 90 => ⟨S8x1x32x128x128, .i32⟩
  | 91 => ⟨S8x1x32x128x128, .i1⟩
  | 92 => ⟨S_, .i32⟩
  | 93 => ⟨S8x1x32x128x128, .i32⟩
  | 94 => ⟨S8x1x32x128x128, .i32⟩
  | 95 => ⟨S8x1x32x128x128, .i32⟩
  | 96 => ⟨S8x1x32x128x128x1, .i32⟩
  | 97 => ⟨S1, .i32⟩
  | 98 => ⟨S_, .i32⟩
  | 99 => ⟨S8x1x32x128x128x1, .i32⟩
  | 100 => ⟨S8x1x32x128x128x1, .i1⟩
  | 101 => ⟨S1x1x1x1x1x1, .i32⟩
  | 102 => ⟨S8x1x32x128x128x1, .i32⟩
  | 103 => ⟨S8x1x32x128x128x1, .i1⟩
  | 104 => ⟨S8x1x32x128x128x1, .i1⟩
  | 105 => ⟨S_, .i1⟩
  | 106 => ⟨S8x1x32x128x128, .i1⟩
  | 107 => ⟨S8x1x32x128x128, .f32⟩
  | 108 => ⟨S_, .f32⟩
  | 109 => ⟨S8x1x32x128x128, .f32⟩
  | 110 => ⟨S8x1x32x128x128, .f32⟩
  | 111 => ⟨S8x32x128x128, .f32⟩
  | _ => ⟨S8x32x128x128, .f32⟩

abbrev hbmTy (i : Nat) : BufTy := match i / 128 with
  | 0 => hbmTy0_0 i
  | 1 => hbmTy0_1 i
  | _ => ⟨S8x32x128x128, .f32⟩

abbrev bufTy : (tb : Table) → Fin (tcTables nBuf tb) → BufTy
  | .hbm, ⟨i, _⟩ => hbmTy i
  | _, _ => ⟨S8x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_call1_v0 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_call2_c : Ref sig .tc := ⟨.hbm, 217, rfl⟩
abbrev main_call2_v0 : Ref sig .tc := ⟨.hbm, 218, rfl⟩
abbrev main_call2_v1 : Ref sig .tc := ⟨.hbm, 219, rfl⟩
abbrev main_call2_c_0 : Ref sig .tc := ⟨.hbm, 220, rfl⟩
abbrev main_call2_v2 : Ref sig .tc := ⟨.hbm, 221, rfl⟩
abbrev main_call2_v3 : Ref sig .tc := ⟨.hbm, 222, rfl⟩
abbrev main_call2_v4 : Ref sig .tc := ⟨.hbm, 223, rfl⟩
abbrev main_call2_v5 : Ref sig .tc := ⟨.hbm, 224, rfl⟩
abbrev main_call2_c_1 : Ref sig .tc := ⟨.hbm, 225, rfl⟩
abbrev main_call2_c_2 : Ref sig .tc := ⟨.hbm, 226, rfl⟩
abbrev main_call2_v6 : Ref sig .tc := ⟨.hbm, 227, rfl⟩
abbrev main_call2_v7 : Ref sig .tc := ⟨.hbm, 228, rfl⟩
abbrev main_call2_v8 : Ref sig .tc := ⟨.hbm, 229, rfl⟩
abbrev main_call2_v9 : Ref sig .tc := ⟨.hbm, 230, rfl⟩
abbrev main_call2_v10 : Ref sig .tc := ⟨.hbm, 231, rfl⟩
abbrev main_call2_v11 : Ref sig .tc := ⟨.hbm, 232, rfl⟩
abbrev main_call2_c_3 : Ref sig .tc := ⟨.hbm, 233, rfl⟩
abbrev main_call2_v12 : Ref sig .tc := ⟨.hbm, 234, rfl⟩
abbrev main_call2_v13 : Ref sig .tc := ⟨.hbm, 235, rfl⟩
abbrev main_call2_cst : Ref sig .tc := ⟨.hbm, 236, rfl⟩
abbrev main_call2_v14 : Ref sig .tc := ⟨.hbm, 237, rfl⟩
abbrev main_v197 : Ref sig .tc := ⟨.hbm, 238, rfl⟩
abbrev main_v198 : Ref sig .tc := ⟨.hbm, 239, rfl⟩

abbrev nD : Nat := 1
abbrev τ : Topo := Topo.v7x

variable {F : FTy → Type} [FloatOps F]
-- ==== Kernel.lean ====
abbrev S8x32x128x128 : Shape := ⟨4, ![8, 32, 128, 128]⟩
abbrev S16x16 : Shape := ⟨2, ![16, 16]⟩
abbrev S3x3x3 : Shape := ⟨3, ![3, 3, 3]⟩
abbrev S32768x128 : Shape := ⟨2, ![32768, 128]⟩
abbrev S2 : Shape := ⟨1, ![2]⟩
abbrev S1x32768x128 : Shape := ⟨3, ![1, 32768, 128]⟩
abbrev S1 : Shape := ⟨1, ![1]⟩
abbrev S1x1x1 : Shape := ⟨3, ![1, 1, 1]⟩
abbrev S256 : Shape := ⟨1, ![256]⟩
abbrev S128 : Shape := ⟨1, ![128]⟩
abbrev S_ : Shape := ⟨0, ![]⟩
abbrev S1x128 : Shape := ⟨2, ![1, 128]⟩
abbrev S27 : Shape := ⟨1, ![27]⟩
abbrev S1x32x128x128 : Shape := ⟨4, ![1, 32, 128, 128]⟩
abbrev S32x128x128 : Shape := ⟨3, ![32, 128, 128]⟩
abbrev S1x1x128 : Shape := ⟨3, ![1, 1, 128]⟩
abbrev S1x128x128 : Shape := ⟨3, ![1, 128, 128]⟩
abbrev S31x128x128 : Shape := ⟨3, ![31, 128, 128]⟩
abbrev S32x128x128x1 : Shape := ⟨4, ![32, 128, 128, 1]⟩

abbrev nBuf : Space → Nat
  | .hbm => 19
  | .vmem => 6
  | .smem => 3
  | _ => 0

abbrev bufTy : (tb : Table) → Fin (tcTables nBuf tb) → BufTy
  | .hbm, ⟨0, _⟩ => ⟨S8x32x128x128, .f32⟩
  | .hbm, ⟨1, _⟩ => ⟨S16x16, .f32⟩
  | .hbm, ⟨2, _⟩ => ⟨S3x3x3, .f32⟩
  | .hbm, ⟨3, _⟩ => ⟨S32768x128, .f32⟩
  | .hbm, ⟨4, _⟩ => ⟨S2, .f32⟩
  | .hbm, ⟨5, _⟩ => ⟨S256, .f32⟩
  | .hbm, ⟨6, _⟩ => ⟨S256, .bf16⟩
  | .hbm, ⟨7, _⟩ => ⟨S256, .i16⟩
  | .hbm, ⟨8, _⟩ => ⟨S256, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S1x128, .i32⟩
  | .hbm, ⟨17, _⟩ => ⟨S27, .f32⟩
  | .hbm, ⟨18, _⟩ => ⟨S8x32x128x128, .f32⟩
  | .local _ .vmem, ⟨0, _⟩ => ⟨S32768x128, .f32⟩
  | .local _ .vmem, ⟨1, _⟩ => ⟨S1x128, .i32⟩
  | .local _ .vmem, ⟨2, _⟩ => ⟨S1x32x128x128, .f32⟩
  | .local _ .vmem, ⟨3, _⟩ => ⟨S1x32x128x128, .f32⟩
  | .local _ .vmem, ⟨4, _⟩ => ⟨S1x32x128x128, .f32⟩
  | .local _ .vmem, ⟨5, _⟩ => ⟨S1x32x128x128, .f32⟩
  | .local _ .smem, ⟨0, _⟩ => ⟨S2, .f32⟩
  | .local _ .smem, ⟨1, _⟩ => ⟨S2, .f32⟩
  | .local _ .smem, ⟨2, _⟩ => ⟨S27, .f32⟩
  | _, _ => ⟨S8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg4_0 : Ref sig .tc := ⟨.vmem, 4, rfl⟩
abbrev cc1_stg4_1 : Ref sig .tc := ⟨.vmem, 5, rfl⟩
abbrev cc0_stg1_0 : Ref sig .tc := ⟨.smem, 0, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6
abbrev cc1_sem4_0 : DmaSem sig := 7
abbrev cc1_sem4_1 : DmaSem sig := 8

abbrev nD : Nat := 1
abbrev τ : Topo := Topo.v7x

variable {F : FTy → Type} [BitOps F]

abbrev grid0 : Pipeline.Grid := .none

abbrev stage0_0 : Fin 1 → Memref sig .tc .vmem S32768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S27 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x32x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Proof.KernelBody.lean ====
module

public import proofs.«01_k».proof.Proof.Gen.KernelWIdeal.Frame
public import Idealize.ShloMosaic.Lib.Pipeline.ValueKit

@[expose] public section

set_option maxRecDepth 16384

noncomputable section

namespace Cert.KernelWIdeal.Hand

open Idealize.ShloMosaic hiding ix1 ix2
open Idealize.ShloMosaic.TcCoe Idealize.ShloMosaic.ValueIdx Cert.KernelWIdeal.Gen

variable {F : FTy → Type} [FloatOps F]

/-! ## The body's steps, each named once

The printed body repeats four steps over and over: shift along the lanes, shift along the rows, shift
along the channels, and add one tap. -/

section Steps

variable {α : Type}

/-- Each lane reads its left neighbour; the first lane reads `z`. -/
def lanePrev (z : α) (v : S32x128x128.Idx → α) : S32x128x128.Idx → α :=
  select (cmpi .eq (iota .tc S32x128x128 32 [2] iota_S32x128x128_d2_w32) (broadcast S32x128x128 0#32))
    (broadcast S32x128x128 z) (dynamicRotate 2 1#32 none v rotates_S32x128x128_d2)

/-- Each lane reads its right neighbour; the last lane reads `z`. -/
def laneNext (z : α) (v : S32x128x128.Idx → α) : S32x128x128.Idx → α :=
  select (cmpi .eq (iota .tc S32x128x128 32 [2] iota_S32x128x128_d2_w32) (broadcast S32x128x128 127#32))
    (broadcast S32x128x128 z) (dynamicRotate 2 127#32 none v rotates_S32x128x128_d2)

/-- Each row reads the row above; the first row reads `z`. -/
def rowPrev (z : α) (v : S32x128x128.Idx → α) : S32x128x128.Idx → α :=
  select (cmpi .eq (iota .tc S32x128x128 32 [1] iota_S32x128x128_d1_w32) (broadcast S32x128x128 0#32))
    (broadcast S32x128x128 z) (dynamicRotate 1 1#32 none v rotates_S32x128x128_d1)

/-- Each row reads the row below; the last row reads `z`. -/
def rowNext (z : α) (v : S32x128x128.Idx → α) : S32x128x128.Idx → α :=
  select (cmpi .eq (iota .tc S32x128x128 32 [1] iota_S32x128x128_d1_w32) (broadcast S32x128x128 127#32))
    (broadcast S32x128x128 z) (dynamicRotate 1 127#32 none v rotates_S32x128x128_d1)

/-- Each channel reads the one before it; the first channel reads `z`. -/
def chanPrev (z : α) (v : S32x128x128.Idx → α) : S32x128x128.Idx → α :=
  concatenate S32x128x128 0 [⟨S1x128x128, broadcast S1x128x128 z⟩,
    ⟨S31x128x128, extractStridedSlice S31x128x128 ![0, 0, 0] v slices_S32x128x128_o0_0_0_S31x128x128⟩]
    concatenates_S1x128x128_S31x128x128_S32x128x128_d0

/-- Each channel reads the one after it; the last channel reads `z`. -/
def chanNext (z : α) (v : S32x128x128.Idx → α) : S32x128x128.Idx → α :=
  concatenate S32x128x128 0
    [⟨S31x128x128, extractStridedSlice S31x128x128 ![1, 0, 0] v slices_S32x128x128_o1_0_0_S31x128x128⟩,
      ⟨S1x128x128, broadcast S1x128x128 z⟩]
    concatenates_S31x128x128_S1x128x128_S32x128x128_d0

/-- The shift along the lanes by `k - 1`. -/
def laneBy (k : Fin 3) (z : α) (v : S32x128x128.Idx → α) : S32x128x128.Idx → α :=
  match k with
  | 0 => lanePrev z v
  | 1 => v
  | 2 => laneNext z v

/-- The shift along the rows by `j - 1`. -/
def rowBy (j : Fin 3) (z : α) (v : S32x128x128.Idx → α) : S32x128x128.Idx → α :=
  match j with
  | 0 => rowPrev z v
  | 1 => v
  | 2 => rowNext z v

/-- The shift along the channels by `i - 1`. -/
def chanBy (i : Fin 3) (z : α) (v : S32x128x128.Idx → α) : S32x128x128.Idx → α :=
  match i with
  | 0 => chanPrev z v
  | 1 => v
  | 2 => chanNext z v

end Steps

/-- The zero the body puts into emptied lanes and rows. -/
def zSmall : F .f32 := Scalar.sitofp .f32 0#32

/-- The zero the body puts into the emptied channel, and starts its sum from. -/
def zBig : F .f32 := Scalar.ofBits .f32 0x00000000#32

/-- A value block moved by `(i - 1, j - 1, k - 1)`, with zeros outside. -/
def moved (i j k : Fin 3) (v : FVec F S32x128x128 .f32) : FVec F S32x128x128 .f32 :=
  chanBy i zBig (rowBy j zSmall (laneBy k zSmall v))

/-- A block of bin numbers moved the same way. -/
def movedBin (i j k : Fin 3) (v : IVec S32x128x128 32) : IVec S32x128x128 32 :=
  chanBy i 0#32 (rowBy j 0#32 (laneBy k 0#32 v))

/-- The weight the packed table holds for the pair (row of the pixel, column of its neighbour): the word
    numbered `a8 + b / 2`, its upper half if `b` is odd, else its lower half. -/
def weightOf (a8 b tab : IVec S32x128x128 32) : FVec F S32x128x128 .f32 :=
  let p := addi a8 (shrsi b (broadcast S32x128x128 1#32))
  let q := select (cmpi .slt p (broadcast S32x128x128 0#32)) (addi p (broadcast S32x128x128 128#32)) p
  let g := dynamicGather 2 tab
    (shapeCast S32x128x128 (shapeCast S32x128x128x1 q shapeCasts_S32x128x128_S32x128x128x1)
      shapeCasts_S32x128x128x1_S32x128x128)
  bitcastToFloat .f32
    (select (cmpi .eq (andi b (broadcast S32x128x128 1#32)) (broadcast S32x128x128 1#32))
      (andi g (broadcast S32x128x128 4294901760#32)) (shli g (broadcast S32x128x128 16#32)))

/-- The pixels' bin numbers. -/
def binOf (mn mx : F .f32) (v : FVec F S32x128x128 .f32) : IVec S32x128x128 32 :=
  minsi (broadcast S32x128x128 15#32) (maxsi (broadcast S32x128x128 0#32)
    (fptosi 32 (floor (mulf (divf (subf v (broadcast S32x128x128 mn)) (broadcast S32x128x128 mx))
      (broadcast S32x128x128 (Scalar.ofBits .f32 0x41800000#32))))))

/-- The table spread over every row. -/
def tabOf (tab : Vec F S1x128 .i32) : IVec S32x128x128 32 :=
  broadcastTo S32x128x128 (shapeCast S1x1x128 (shapeCast S1x1x128 (shapeCast S128 tab shapeCasts_S1x128_S128)
    shapeCasts_S128_S1x1x128) shapeCasts_S1x1x128_S1x1x128) broadcasts_S1x1x128_S32x128x128

/-- What one neighbour adds. -/
def tap (f : S27.Idx → F .f32) (v : FVec F S32x128x128 .f32) (b a8 tab : IVec S32x128x128 32) (i j k : Fin 3) :
    FVec F S32x128x128 .f32 :=
  mulf (mulf (broadcast S32x128x128 (f (ix1 (⟨i.val * 9 + j.val * 3 + k.val, by omega⟩ : Fin 27)))) (moved i j k v))
    (weightOf a8 (movedBin i j k b) tab)

/-- The three neighbours of one lane shift and one row shift, added in channel order. -/
def tap3 (f : S27.Idx → F .f32) (v : FVec F S32x128x128 .f32) (b a8 tab : IVec S32x128x128 32) (j k : Fin 3)
    (acc : FVec F S32x128x128 .f32) : FVec F S32x128x128 .f32 :=
  addf (addf (addf acc (tap f v b a8 tab 0 j k)) (tap f v b a8 tab 1 j k)) (tap f v b a8 tab 2 j k)

/-- The nine neighbours of one lane shift. -/
def tap9 (f : S27.Idx → F .f32) (v : FVec F S32x128x128 .f32) (b a8 tab : IVec S32x128x128 32) (k : Fin 3)
    (acc : FVec F S32x128x128 .f32) : FVec F S32x128x128 .f32 :=
  tap3 f v b a8 tab 2 k (tap3 f v b a8 tab 1 k (tap3 f v b a8 tab 0 k acc))

/-- All twenty-seven neighbours. -/
def tap27 (f : S27.Idx → F .f32) (v : FVec F S32x128x128 .f32) (b a8 tab : IVec S32x128x128 32) :
    FVec F S32x128x128 .f32 :=
  tap9 f v b a8 tab 2 (tap9 f v b a8 tab 1 (tap9 f v b a8 tab 0 (broadcast S32x128x128 zBig)))

/-- The block of the result, from the block of the operand. -/
def blockOf (mm : S2.Idx → F .f32) (f : S27.Idx → F .f32) (tab : Vec F S1x128 .i32) (x : Vec F S1x32x128x128 .f32) :
    FVec F S1x32x128x128 .f32 :=
  let v := shapeCast S32x128x128 x shapeCasts_S1x32x128x128_S32x128x128
  let b := binOf (mm (ix1 (0 : Fin 2))) (mm (ix1 (1 : Fin 2))) v
  shapeCast S1x32x128x128 (tap27 f v b (muli b (broadcast S32x128x128 8#32)) (tabOf tab))
    shapeCasts_S32x128x128_S1x32x128x128

/-- A one-entry load of a list of `n` reads that entry. -/
theorem ld_entry {α : EltTy} {n : Nat} (x : Vec F ⟨1, ![n]⟩ α) (j : Nat) (hj : j < n) (h) (h1 : 0 < (⟨1, ![1]⟩ : Shape).numel) :
    View.ld x (Rect.unit (s := ⟨1, ![n]⟩) ![j] ![1] h) (Shape.Idx.first h1) = x (ix1 (⟨j, hj⟩ : Fin n)) := by
  refine congrArg x (funext fun a => ?_)
  match a with
  | ⟨0, _⟩ => exact Fin.ext (by rfl)

variable (V : (c : Dev nD) → (b : Ref sig .tc) → Buf (Elt F) ((c : Thread nD τ).loc b))

/-- What the main call's body leaves at a grid point, as one composition of the named steps. -/
theorem after_main (c : Dev nD) (t : Fin cfg1.N) :
    (dat1 (F := F) V c).after 4 t
      = blockOf (iblk1 V c 0 t) (iblk1 V c 1 t) (iblk1 V c 2 t)
          (iblk1 V c 3 t) := by
  rw [after1_4]
  unfold outsAt1
  frame_out
  generalize iblk1 V c 0 t = x0
  generalize iblk1 V c 1 t = x1
  generalize iblk1 V c 2 t = x2
  generalize iblk1 V c 3 t = x3
  have h2 : ∀ (j : Nat) (hj : j < 2) h h1, View.ld x0 (Rect.unit (s := S2) ![j] ![1] h) (Shape.Idx.first h1) = x0 (ix1 (⟨j, hj⟩ : Fin 2)) :=
    fun j hj h h1 => ld_entry (α := .f32) x0 j hj h h1
  have h27 : ∀ (j : Nat) (hj : j < 27) h h1, View.ld x1 (Rect.unit (s := S27) ![j] ![1] h) (Shape.Idx.first h1) = x1 (ix1 (⟨j, hj⟩ : Fin 27)) :=
    fun j hj h h1 => ld_entry (α := .f32) x1 j hj h h1
  simp (disch := decide) only [h2, h27]
  rfl

end Cert.KernelWIdeal.Hand

end
-- ==== Proof.Shifts.lean ====
module

public import proofs.«01_k».proof.Proof.KernelBody
public import Idealize.ShloMosaic.Lib.KernelVsHost
public import Idealize.ShloMosaic.Lib.Pipeline.Value
public import Idealize.ShloMosaic.Lib.WordCmp
public import Idealize.ShloMosaic.Lib.ValueIdxCoords

@[expose] public section

set_option maxRecDepth 16384

noncomputable section

namespace Cert.KernelWIdeal.Hand

open Idealize.ShloMosaic hiding ix1 ix2 ix3 ix4 ix5
open Idealize.ShloMosaic.TcCoe Idealize.ShloMosaic.ValueIdx Idealize.ShloMosaic.WordCmp Cert.KernelWIdeal.Gen

/-! ## The shifts, read at a pixel -/

variable {α : Type}

/-- A block read in the frame of its zero-padded copy: coordinate `1` there is coordinate `0` of the block. -/
def padRead (z : α) (v : S32x128x128.Idx → α) (c h w : Nat) : α :=
  if hin : (1 ≤ c ∧ c ≤ 32) ∧ (1 ≤ h ∧ h ≤ 128) ∧ (1 ≤ w ∧ w ≤ 128) then
    v (ix3 ⟨c - 1, by omega⟩ ⟨h - 1, by omega⟩ ⟨w - 1, by omega⟩)
  else z

/-- A select on "this coordinate is `e`" is the choice on that equation. -/
theorem select_coord {n e : Nat} (hn : n < 2 ^ 32) (he : e < 2 ^ 32) (a b : α) :
    Scalar.select (IntOp.cmpi .eq (BitVec.ofNat 32 n) (BitVec.ofNat 32 e)) a b = if n = e then a else b := by
  by_cases h : n = e
  · rw [if_pos h, (cmpi_eq_ofNat_eq_one_iff hn he).2 h]; rfl
  · rw [if_neg h, (cmpi_eq_ofNat_eq_zero_iff hn he).2 h]; rfl

/-- The shift along the lanes, at a pixel. -/
theorem laneBy_apply (k : Fin 3) (z : α) (v : S32x128x128.Idx → α) (c : Fin 32) (h w : Fin 128) :
    laneBy k z v (ix3 c h w)
      = if hk : 1 ≤ w.val + k.val ∧ w.val + k.val ≤ 128 then v (ix3 c h ⟨w.val + k.val - 1, by omega⟩) else z := by
  match k with
  | 0 =>
    show Scalar.select (IntOp.cmpi .eq (iota .tc S32x128x128 32 [2] iota_S32x128x128_d2_w32 (ix3 c h w)) (BitVec.ofNat 32 0)) z
      (dynamicRotate 2 1#32 none v rotates_S32x128x128_d2 (ix3 c h w)) = _
    rw [iota_single_apply, select_coord (by have := w.isLt; show w.val < _; omega) (by omega)]
    by_cases hw : w.val = 0
    · rw [if_pos (by exact hw), dif_neg (by simp [hw])]
    · rw [if_neg (by exact hw), dif_pos (by have := w.isLt; simp; omega)]
      refine dynamicRotate_apply _ _ _ _ _ _ fun b => ?_
      match b with
      | ⟨0, _⟩ => rfl
      | ⟨1, _⟩ => rfl
      | ⟨2, _⟩ =>
        show w.val + 0 - 1 = (w.val + 128 - 1 % 128) % 128
        omega
  | 1 => rw [dif_pos (by have := w.isLt; simp)]; exact congrArg (fun t => v (ix3 c h t)) (Fin.ext (by simp))
  | 2 =>
    show Scalar.select (IntOp.cmpi .eq (iota .tc S32x128x128 32 [2] iota_S32x128x128_d2_w32 (ix3 c h w)) (BitVec.ofNat 32 127)) z
      (dynamicRotate 2 127#32 none v rotates_S32x128x128_d2 (ix3 c h w)) = _
    rw [iota_single_apply, select_coord (by have := w.isLt; show w.val < _; omega) (by omega)]
    by_cases hw : w.val = 127
    · rw [if_pos (by exact hw), dif_neg (by simp [hw])]
    · rw [if_neg (by exact hw), dif_pos (by have := w.isLt; simp; omega)]
      refine dynamicRotate_apply _ _ _ _ _ _ fun b => ?_
      match b with
      | ⟨0, _⟩ => rfl
      | ⟨1, _⟩ => rfl
      | ⟨2, _⟩ =>
        show w.val + 2 - 1 = (w.val + 128 - 127 % 128) % 128
        have := w.isLt
        omega

/-- The shift along the rows, at a pixel. -/
theorem rowBy_apply (k : Fin 3) (z : α) (v : S32x128x128.Idx → α) (c : Fin 32) (h w : Fin 128) :
    rowBy k z v (ix3 c h w)
      = if hk : 1 ≤ h.val + k.val ∧ h.val + k.val ≤ 128 then v (ix3 c ⟨h.val + k.val - 1, by omega⟩ w) else z := by
  match k with
  | 0 =>
    show Scalar.select (IntOp.cmpi .eq (iota .tc S32x128x128 32 [1] iota_S32x128x128_d1_w32 (ix3 c h w)) (BitVec.ofNat 32 0)) z
      (dynamicRotate 1 1#32 none v rotates_S32x128x128_d1 (ix3 c h w)) = _
    rw [iota_single_apply, select_coord (by have := h.isLt; show h.val < _; omega) (by omega)]
    by_cases hw : h.val = 0
    · rw [if_pos (by exact hw), dif_neg (by simp [hw])]
    · rw [if_neg (by exact hw), dif_pos (by have := h.isLt; simp; omega)]
      refine dynamicRotate_apply _ _ _ _ _ _ fun b => ?_
      match b with
      | ⟨0, _⟩ => rfl
      | ⟨1, _⟩ =>
        show h.val + 0 - 1 = (h.val + 128 - 1 % 128) % 128
        omega
      | ⟨2, _⟩ => rfl
  | 1 => rw [dif_pos (by have := h.isLt; simp)]; exact congrArg (fun t => v (ix3 c t w)) (Fin.ext (by simp))
  | 2 =>
    show Scalar.select (IntOp.cmpi .eq (iota .tc S32x128x128 32 [1] iota_S32x128x128_d1_w32 (ix3 c h w)) (BitVec.ofNat 32 127)) z
      (dynamicRotate 1 127#32 none v rotates_S32x128x128_d1 (ix3 c h w)) = _
    rw [iota_single_apply, select_coord (by have := h.isLt; show h.val < _; omega) (by omega)]
    by_cases hw : h.val = 127
    · rw [if_pos (by exact hw), dif_neg (by simp [hw])]
    · rw [if_neg (by exact hw), dif_pos (by have := h.isLt; simp; omega)]
      refine dynamicRotate_apply _ _ _ _ _ _ fun b => ?_
      match b with
      | ⟨0, _⟩ => rfl
      | ⟨1, _⟩ =>
        show h.val + 2 - 1 = (h.val + 128 - 127 % 128) % 128
        have := h.isLt
        omega
      | ⟨2, _⟩ => rfl

/-- The shift along the channels, at a pixel. -/
theorem chanBy_apply (k : Fin 3) (z : α) (v : S32x128x128.Idx → α) (c : Fin 32) (h w : Fin 128) :
    chanBy k z v (ix3 c h w)
      = if hk : 1 ≤ c.val + k.val ∧ c.val + k.val ≤ 32 then v (ix3 ⟨c.val + k.val - 1, by omega⟩ h w) else z := by
  match k with
  | 0 =>
    show chanPrev z v (ix3 c h w) = _
    unfold chanPrev
    by_cases hc : c.val = 0
    · rw [dif_neg (by simp [hc])]
      rw [concatenate_pair_apply_left (t := S32x128x128) (s₁ := S1x128x128) (s₂ := S31x128x128) 0 _ _ _ (ix3 c h w) rfl
        (ix3 (0 : Fin 1) h w) (fun b => by
          match b with
          | ⟨0, _⟩ => exact hc.symm
          | ⟨1, _⟩ => rfl
          | ⟨2, _⟩ => rfl)]
      rfl
    · rw [dif_pos (by have := c.isLt; simp; omega)]
      rw [concatenate_pair_apply_right (t := S32x128x128) (s₁ := S1x128x128) (s₂ := S31x128x128) 0 _ _ _ (ix3 c h w) rfl rfl
        (ix3 (⟨c.val - 1, by omega⟩ : Fin 31) h w) (fun b hb => by
          match b with
          | ⟨0, _⟩ => exact absurd rfl hb
          | ⟨1, _⟩ => rfl
          | ⟨2, _⟩ => rfl) (by show c.val - 1 + 1 = c.val; omega)]
      refine extractStridedSlice_apply _ _ _ _ _ fun b => ?_
      match b with
      | ⟨0, _⟩ => show c.val + 0 - 1 = 0 + (c.val - 1); omega
      | ⟨1, _⟩ => show h.val = 0 + h.val; omega
      | ⟨2, _⟩ => show w.val = 0 + w.val; omega
  | 1 => rw [dif_pos (by have := c.isLt; simp)]; exact congrArg (fun t => v (ix3 t h w)) (Fin.ext (by simp))
  | 2 =>
    show chanNext z v (ix3 c h w) = _
    unfold chanNext
    by_cases hc : c.val = 31
    · rw [dif_neg (by simp [hc])]
      rw [concatenate_pair_apply_right (t := S32x128x128) (s₁ := S31x128x128) (s₂ := S1x128x128) 0 _ _ _ (ix3 c h w) rfl rfl
        (ix3 (0 : Fin 1) h w) (fun b hb => by
          match b with
          | ⟨0, _⟩ => exact absurd rfl hb
          | ⟨1, _⟩ => rfl
          | ⟨2, _⟩ => rfl) (by show 0 + 31 = c.val; omega)]
      rfl
    · rw [dif_pos (by have := c.isLt; simp; omega)]
      rw [concatenate_pair_apply_left (t := S32x128x128) (s₁ := S31x128x128) (s₂ := S1x128x128) 0 _ _ _ (ix3 c h w) rfl
        (ix3 (⟨c.val, by have := c.isLt; omega⟩ : Fin 31) h w) (fun b => by
          match b with
          | ⟨0, _⟩ => rfl
          | ⟨1, _⟩ => rfl
          | ⟨2, _⟩ => rfl)]
      refine extractStridedSlice_apply _ _ _ _ _ fun b => ?_
      match b with
      | ⟨0, _⟩ => show c.val + 2 - 1 = 1 + c.val; omega
      | ⟨1, _⟩ => show h.val = 0 + h.val; omega
      | ⟨2, _⟩ => show w.val = 0 + w.val; omega

/-- The three shifts together read the padded block. -/
theorem shifts_apply (i j k : Fin 3) (z : α) (v : S32x128x128.Idx → α) (c : Fin 32) (h w : Fin 128) :
    chanBy i z (rowBy j z (laneBy k z v)) (ix3 c h w)
      = padRead z v (c.val + i.val) (h.val + j.val) (w.val + k.val) := by
  unfold padRead
  rw [chanBy_apply]
  by_cases hc : 1 ≤ c.val + i.val ∧ c.val + i.val ≤ 32
  · rw [dif_pos hc, rowBy_apply]
    by_cases hh : 1 ≤ h.val + j.val ∧ h.val + j.val ≤ 128
    · rw [dif_pos hh, laneBy_apply]
      by_cases hw : 1 ≤ w.val + k.val ∧ w.val + k.val ≤ 128
      · rw [dif_pos hw, dif_pos ⟨hc, hh, hw⟩]
      · rw [dif_neg hw, dif_neg (fun t => hw t.2.2)]
    · rw [dif_neg hh, dif_neg (fun t => hh t.2.1)]
  · rw [dif_neg hc, dif_neg (fun t => hc t.1)]

end Cert.KernelWIdeal.Hand

end
-- ==== Proof.Table.lean ====
module

public import proofs.«01_k».proof.Proof.Shifts
public import Idealize.ShloMosaic.Lib.WordArith

@[expose] public section

set_option maxRecDepth 16384

noncomputable section

namespace Cert.KernelWIdeal.Hand

open Idealize.ShloMosaic hiding ix1 ix2 ix3 ix4 ix5
open Idealize.ShloMosaic.TcCoe Idealize.ShloMosaic.ValueIdx Idealize.ShloMosaic.WordCmp Idealize.ShloMosaic.WordArith Cert.KernelWIdeal.Gen

variable {F : FTy → Type} [FloatOps F]

/-! ## The packed table and the bins, read at a pixel -/

/-- The weight the packed words hold for row `r` and column `s`: word `8 r + s / 2`, the upper half for an odd
    column and the lower half, moved up, for an even one. -/
def weightAt (tab : Vec F S1x128 .i32) (r s : Fin 16) : F .f32 :=
  let u : BitVec 32 := tab (ix2 (0 : Fin 1) (⟨r.val * 8 + s.val / 2, by omega⟩ : Fin 128))
  FloatOps.ofBits .f32 (if s.val % 2 = 1 then u &&& 4294901760#32 else u <<< (16 : Nat))

/-- The table spread over the block, at a pixel. -/
theorem tabOf_apply (tab : Vec F S1x128 .i32) (c : Fin 32) (h w : Fin 128) :
    tabOf tab (ix3 c h w) = tab (ix2 (0 : Fin 1) w) := by
  unfold tabOf
  rw [broadcastTo_apply _ _ _ (ix3 (0 : Fin 1) (0 : Fin 1) w) (fun a => by
    match a with
    | ⟨0, _⟩ => rfl
    | ⟨1, _⟩ => rfl
    | ⟨2, _⟩ => rfl)]
  rw [shapeCast_apply _ _ _ (ix3 (0 : Fin 1) (0 : Fin 1) w) rfl]
  rw [shapeCast_apply _ _ _ (ix1 w) (by rw [Shape.rowMajor_val_one, Shape.rowMajor_val_three]; simp [ix1, ix3])]
  rw [shapeCast_apply _ _ _ (ix2 (0 : Fin 1) w) (by rw [Shape.rowMajor_val_one, Shape.rowMajor_val_two]; simp [ix1, ix2])]

/-- The word number the body computes from a row and a column. -/
theorem word_number : ∀ r s : Fin 16,
    (Scalar.select (IntOp.cmpi .slt (IntOp.addi (BitVec.ofNat 32 (r.val * 8)) (IntOp.shrsi .vector (BitVec.ofNat 32 s.val) 1#32)) 0#32)
      (IntOp.addi (IntOp.addi (BitVec.ofNat 32 (r.val * 8)) (IntOp.shrsi .vector (BitVec.ofNat 32 s.val) 1#32)) 128#32)
      (IntOp.addi (BitVec.ofNat 32 (r.val * 8)) (IntOp.shrsi .vector (BitVec.ofNat 32 s.val) 1#32))).toNat % 128
      = r.val * 8 + s.val / 2 := by
  decide +kernel

/-- The body's test for an odd column. -/
theorem odd_test : ∀ s : Fin 16,
    IntOp.cmpi .eq (IntOp.andi (BitVec.ofNat 32 s.val) 1#32) 1#32 = if s.val % 2 = 1 then 1#1 else 0#1 := by
  decide +kernel

/-- The weight the body picks at a pixel of row `r` whose neighbour has column `s`. -/
theorem weightOf_apply (a8 b : IVec S32x128x128 32) (tab : Vec F S1x128 .i32) (c : Fin 32) (h w : Fin 128) (r s : Fin 16)
    (hr : a8 (ix3 c h w) = BitVec.ofNat 32 (r.val * 8)) (hs : b (ix3 c h w) = BitVec.ofNat 32 s.val) :
    (weightOf a8 b (tabOf tab) (ix3 c h w) : F .f32) = weightAt tab r s := by
  unfold weightOf
  have hq : ∀ q : IVec S32x128x128 32,
      shapeCast S32x128x128 (shapeCast S32x128x128x1 q shapeCasts_S32x128x128_S32x128x128x1)
        shapeCasts_S32x128x128x1_S32x128x128 (ix3 c h w) = q (ix3 c h w) := fun q => by
    rw [shapeCast_apply _ _ _ (ix4 c h w (0 : Fin 1)) (by rw [Shape.rowMajor_val_four, Shape.rowMajor_val_three]; simp [ix3, ix4])]
    rw [shapeCast_apply _ _ _ (ix3 c h w) (by rw [Shape.rowMajor_val_four, Shape.rowMajor_val_three]; simp [ix3, ix4])]
  have hg : ∀ q : IVec S32x128x128 32, (q (ix3 c h w)).toNat % 128 = r.val * 8 + s.val / 2 →
      dynamicGather 2 (tabOf tab) (shapeCast S32x128x128 (shapeCast S32x128x128x1 q shapeCasts_S32x128x128_S32x128x128x1)
        shapeCasts_S32x128x128x1_S32x128x128) (ix3 c h w)
      = tab (ix2 (0 : Fin 1) (⟨r.val * 8 + s.val / 2, by omega⟩ : Fin 128)) := fun q e => by
    refine Eq.trans ?_ (tabOf_apply tab c h (⟨r.val * 8 + s.val / 2, by omega⟩ : Fin 128))
    refine congrArg (tabOf tab) (funext fun a => ?_)
    match a with
    | ⟨0, _⟩ => rfl
    | ⟨1, _⟩ => rfl
    | ⟨2, _⟩ => exact Fin.ext ((congrArg (fun t : BitVec 32 => t.toNat % 128) (hq q)).trans e)
  show FloatOps.ofBits .f32 (Scalar.select (IntOp.cmpi .eq (IntOp.andi (b (ix3 c h w)) 1#32) 1#32)
    (IntOp.andi (dynamicGather 2 (tabOf tab) _ (ix3 c h w)) 4294901760#32)
    (IntOp.shli .vector (dynamicGather 2 (tabOf tab) _ (ix3 c h w)) 16#32)) = _
  rw [hg _ (by
    show (Scalar.select (IntOp.cmpi .slt (IntOp.addi (a8 (ix3 c h w)) (IntOp.shrsi .vector (b (ix3 c h w)) 1#32)) 0#32)
      (IntOp.addi (IntOp.addi (a8 (ix3 c h w)) (IntOp.shrsi .vector (b (ix3 c h w)) 1#32)) 128#32)
      (IntOp.addi (a8 (ix3 c h w)) (IntOp.shrsi .vector (b (ix3 c h w)) 1#32))).toNat % 128 = _
    rw [hr, hs]; exact word_number r s)]
  rw [hs, odd_test]
  by_cases hodd : s.val % 2 = 1
  · rw [if_pos hodd]; simp only [weightAt, if_pos hodd]; rfl
  · rw [if_neg hodd]; simp only [weightAt, if_neg hodd]; rfl

/-- A clipped word is one of the sixteen bin numbers. -/
theorem clip_bin (x : BitVec 32) : ∃ r : Fin 16, IntOp.minsi 15#32 (IntOp.maxsi 0#32 x) = BitVec.ofNat 32 r.val := by
  have h : (IntOp.minsi 15#32 (IntOp.maxsi 0#32 x)).toNat ≤ 15 := by
    unfold IntOp.minsi
    split
    · decide
    · next hlt =>
      have h0 := toNat_maxsi_zero x
      have hm : (IntOp.maxsi 0#32 x).toInt = ((IntOp.maxsi 0#32 x).toNat : Int) := by
        have hx := x.toInt_lt
        rw [BitVec.toInt_eq_toNat_cond, if_pos (by rw [h0]; omega)]
      rw [BitVec.slt_iff_toInt_lt, hm] at hlt
      have h15 : (15#32 : BitVec 32).toInt = 15 := by decide
      omega
  exact ⟨⟨_, Nat.lt_succ_of_le h⟩, BitVec.eq_of_toNat_eq (by rw [BitVec.toNat_ofNat]; exact (Nat.mod_eq_of_lt (by omega)).symm)⟩

end Cert.KernelWIdeal.Hand

end
-- ==== Proof.Pixel.lean ====
module

public import proofs.«01_k».proof.Proof.Table
public import Idealize.ShloMosaic.Lib.IdealHost
public import Idealize.ShloMosaic.PureOps.Ideal.Laws

@[expose] public section

set_option maxRecDepth 16384

noncomputable section

namespace Cert.KernelWIdeal.Hand

open Idealize.ShloMosaic hiding ix1 ix2 ix3 ix4 ix5
open Idealize.ShloMosaic.TcCoe Idealize.ShloMosaic.ValueIdx Idealize.ShloMosaic.WordCmp Cert.KernelWIdeal.Gen

/-! ## One pixel of the result, on the extended reals -/

/-- The bin word of one value. -/
def binWord (mn mx a : EReal) : BitVec 32 :=
  IntOp.minsi 15#32 (IntOp.maxsi 0#32 (FloatOps.fptosi (F := Ideal) (φ := .f32) 32
    (FloatOps.floor (F := Ideal) (φ := .f32) (Ideal.div (a - mn) mx * Ideal.ofBits .f32 0x41800000#32))))

/-- The bin of one value. -/
def bin (mn mx a : EReal) : Fin 16 := Classical.choose (clip_bin
  (FloatOps.fptosi (F := Ideal) (φ := .f32) 32
    (FloatOps.floor (F := Ideal) (φ := .f32) (Ideal.div (a - mn) mx * Ideal.ofBits .f32 0x41800000#32))))

/-- The bin word writes the bin. -/
theorem binWord_eq (mn mx a : EReal) : binWord mn mx a = BitVec.ofNat 32 (bin mn mx a).val :=
  Classical.choose_spec (clip_bin _)

/-- One pixel of the result: the filter against the weighted, zero-padded neighbourhood, the weights read in the row of
    the pixel's own bin. -/
def pixel (mn mx : EReal) (f : Fin 3 → Fin 3 → Fin 3 → EReal) (tab : Vec Ideal S1x128 .i32) (v : S32x128x128.Idx → EReal)
    (c : Fin 32) (h w : Fin 128) : EReal :=
  ∑ i : Fin 3, ∑ j : Fin 3, ∑ k : Fin 3, f i j k
    * padRead 0 (fun y => (weightAt (F := Ideal) tab (bin mn mx (v (ix3 c h w))) (bin mn mx (v y)) : EReal) * v y)
        (c.val + i.val) (h.val + j.val) (w.val + k.val)

/-- A padded read of a block of words, each of which writes a bin, writes a bin as well: outside the block bin `0`. -/
theorem padRead_bin (bn : S32x128x128.Idx → Fin 16) (b : IVec S32x128x128 32) (hb : ∀ y, b y = BitVec.ofNat 32 (bn y).val)
    (c h w : Nat) : padRead 0#32 b c h w = BitVec.ofNat 32 (padRead 0 bn c h w).val := by
  unfold padRead
  split
  · exact hb _
  · rfl

/-- The two zeros of the body are the number zero. -/
theorem zSmall_eq : (zSmall (F := Ideal) : EReal) = 0 := by
  show (((0#32 : BitVec 32).toInt : ℝ) : EReal) = 0
  simp

/-- See `zSmall_eq`. -/
theorem zBig_eq : (zBig (F := Ideal) : EReal) = 0 := Ideal.ofBits_zero_f32

/-- What one neighbour adds, at a pixel. -/
theorem tap_apply (f : S27.Idx → EReal) (v : S32x128x128.Idx → EReal) (b : IVec S32x128x128 32) (tab : Vec Ideal S1x128 .i32)
    (bn : S32x128x128.Idx → Fin 16) (hb : ∀ y, b y = BitVec.ofNat 32 (bn y).val) (i j k : Fin 3) (c : Fin 32) (h w : Fin 128) :
    (tap (F := Ideal) f v b (muli b (broadcast S32x128x128 8#32)) (tabOf (F := Ideal) tab) i j k (ix3 c h w) : EReal)
      = f (ix1 (⟨i.val * 9 + j.val * 3 + k.val, by omega⟩ : Fin 27))
        * padRead 0 (fun y => (weightAt (F := Ideal) tab (bn (ix3 c h w)) (bn y) : EReal) * v y)
            (c.val + i.val) (h.val + j.val) (w.val + k.val) := by
  have hm : (moved (F := Ideal) i j k v (ix3 c h w) : EReal) = padRead 0 v (c.val + i.val) (h.val + j.val) (w.val + k.val) := by
    unfold moved
    rw [show (zSmall (F := Ideal)) = (0 : EReal) from zSmall_eq, show (zBig (F := Ideal)) = (0 : EReal) from zBig_eq]
    exact shifts_apply i j k (0 : EReal) v c h w
  have hbn : movedBin i j k b (ix3 c h w)
      = BitVec.ofNat 32 (padRead 0 bn (c.val + i.val) (h.val + j.val) (w.val + k.val)).val := by
    rw [← padRead_bin bn b hb]
    exact shifts_apply i j k 0#32 b c h w
  have ha : ∀ r : Fin 16, IntOp.muli (BitVec.ofNat 32 r.val) 8#32 = BitVec.ofNat 32 (r.val * 8) := by decide +kernel
  have hw := weightOf_apply (F := Ideal) (muli b (broadcast S32x128x128 8#32)) (movedBin i j k b) tab c h w (bn (ix3 c h w)) _
    (by show IntOp.muli (b (ix3 c h w)) 8#32 = _; rw [hb]; exact ha _) hbn
  show (f (ix1 (⟨i.val * 9 + j.val * 3 + k.val, by omega⟩ : Fin 27)) * (moved (F := Ideal) i j k v (ix3 c h w) : EReal))
    * (weightOf (F := Ideal) _ (movedBin i j k b) (tabOf (F := Ideal) tab) (ix3 c h w) : EReal) = _
  rw [hw, hm, mul_assoc]
  congr 1
  unfold padRead
  split
  · exact mul_comm _ _
  · exact zero_mul _

/-- The twenty-seven neighbours added in the body's order are the sum over the three shifts. -/
theorem sum27 (T : Fin 3 → Fin 3 → Fin 3 → EReal) :
    ((((((((((((((((((((((((((((0 : EReal) + T 0 0 0) + T 1 0 0) + T 2 0 0) + T 0 1 0) + T 1 1 0) + T 2 1 0) + T 0 2 0) + T 1 2 0) + T 2 2 0)
      + T 0 0 1) + T 1 0 1) + T 2 0 1) + T 0 1 1) + T 1 1 1) + T 2 1 1) + T 0 2 1) + T 1 2 1) + T 2 2 1)
      + T 0 0 2) + T 1 0 2) + T 2 0 2) + T 0 1 2) + T 1 1 2) + T 2 1 2) + T 0 2 2) + T 1 2 2) + T 2 2 2)
      = ∑ i : Fin 3, ∑ j : Fin 3, ∑ k : Fin 3, T i j k := by
  have e : ∑ i : Fin 3, ∑ j : Fin 3, ∑ k : Fin 3, T i j k = ∑ k : Fin 3, ∑ j : Fin 3, ∑ i : Fin 3, T i j k := by
    rw [Finset.sum_comm]
    rw [Finset.sum_congr rfl fun j _ => Finset.sum_comm, Finset.sum_comm]
  rw [e]
  simp only [Fin.sum_univ_three, zero_add, add_assoc]

/-- The body's result at a pixel of its block. -/
theorem tap27_apply (f : S27.Idx → EReal) (v : S32x128x128.Idx → EReal) (mn mx : EReal) (tab : Vec Ideal S1x128 .i32)
    (c : Fin 32) (h w : Fin 128) :
    (tap27 (F := Ideal) f v (binOf (F := Ideal) mn mx v) (muli (binOf (F := Ideal) mn mx v) (broadcast S32x128x128 8#32))
        (tabOf (F := Ideal) tab) (ix3 c h w) : EReal)
      = pixel mn mx (fun i j k => f (ix1 (⟨i.val * 9 + j.val * 3 + k.val, by omega⟩ : Fin 27))) tab v c h w := by
  have hb : ∀ y, binOf (F := Ideal) mn mx v y = BitVec.ofNat 32 (bin mn mx (v y)).val := fun y => binWord_eq mn mx (v y)
  have ht := fun i j k => tap_apply f v (binOf (F := Ideal) mn mx v) tab (fun y => bin mn mx (v y)) hb i j k c h w
  unfold pixel
  rw [← Finset.sum_congr rfl fun i _ => Finset.sum_congr rfl fun j _ => Finset.sum_congr rfl fun k _ => ht i j k]
  rw [← sum27 fun i j k => (tap (F := Ideal) f v (binOf (F := Ideal) mn mx v)
    (muli (binOf (F := Ideal) mn mx v) (broadcast S32x128x128 8#32)) (tabOf (F := Ideal) tab) i j k (ix3 c h w) : EReal)]
  rw [← zBig_eq]
  rfl

/-- The body's block of the result, at a pixel. -/
theorem blockOf_apply (mm : S2.Idx → EReal) (f : S27.Idx → EReal) (tab : Vec Ideal S1x128 .i32) (x : S1x32x128x128.Idx → EReal)
    (u : Fin 1) (c : Fin 32) (h w : Fin 128) :
    (blockOf (F := Ideal) mm f tab x (ix4 u c h w) : EReal)
      = pixel (mm (ix1 (0 : Fin 2))) (mm (ix1 (1 : Fin 2)))
          (fun i j k => f (ix1 (⟨i.val * 9 + j.val * 3 + k.val, by omega⟩ : Fin 27))) tab
          (fun y => x (ix4 (0 : Fin 1) (y 0) (y 1) (y 2))) c h w := by
  unfold blockOf
  rw [shapeCast_apply _ _ _ (ix3 c h w) (by
    rw [Shape.rowMajor_val_four, Shape.rowMajor_val_three]; have := u.isLt; simp [ix3, ix4])]
  rw [tap27_apply]
  congr 1
  funext y
  refine shapeCast_apply _ _ _ _ ?_
  rw [Shape.rowMajor_val_four, Shape.rowMajor_val_three]
  simp [ix4]

end Cert.KernelWIdeal.Hand

end
-- ==== Proof.MinMax.lean ====
module

public import proofs.«01_k».proof.Proof.Pixel
public import proofs.«01_k».proof.Proof.Gen.ReferenceWIdeal.Run

@[expose] public section

set_option maxRecDepth 16384

noncomputable section

namespace Cert.KernelWIdeal.Hand

open Idealize.ShloMosaic hiding ix1 ix2 ix3 ix4 ix5
open Idealize.ShloMosaic.TcCoe Idealize.ShloMosaic.ValueIdx Cert.KernelWIdeal.Gen

/-! ## The smallest and the greatest entry

The kernel folds a reshaped copy in one call; the reference reduces the array itself. Over a commutative and associative
operation both are one fold over a set of entries, and a reshape only renumbers that set. -/

/-- A fold over all entries of a reshaped array is the fold over all entries of the array. -/
theorem fold_shapeCast {α : Type} {s t : Shape} (op : α → α → α) [Std.Commutative op] [Std.Associative op] (z : α)
    (x : s.Idx → α) (h : s.ShapeCasts t) :
    (Finset.univ : Finset t.Idx).fold op z (shapeCast t x h) = (Finset.univ : Finset s.Idx).fold op z x := by
  rw [← Finset.map_univ_equiv (Shape.reshapeEquiv h), Finset.fold_map]
  rfl

/-- The smallest entry of the operand. -/
def minOf (x : S8x32x128x128.Idx → EReal) : EReal :=
  (Finset.univ : Finset S8x32x128x128.Idx).fold (FloatOps.minimumf (F := Ideal) (φ := .f32)) (Ideal.ofBits .f32 0x7F800000#32) x

/-- The greatest entry of the operand. -/
def maxOf (x : S8x32x128x128.Idx → EReal) : EReal :=
  (Finset.univ : Finset S8x32x128x128.Idx).fold (FloatOps.maximumf (F := Ideal) (φ := .f32)) (Ideal.ofBits .f32 0xFF800000#32) x

/-- The body's reduction to the smallest entry is the fold over every entry. -/
theorem reduce_min (src : S1x32768x128.Idx → EReal) (j : S1.Idx) :
    (multiReduction (F := Ideal) (φ := .f32) .minimumf [1, 2] S1 src 0x7F800000#32 reduces_S1x32768x128_S1 (.inl rfl) rfl j : EReal)
      = (Finset.univ : Finset S1x32768x128.Idx).fold (FloatOps.minimumf (F := Ideal) (φ := .f32)) (Ideal.ofBits .f32 0x7F800000#32) src := by
  refine (multiReduction_minimumf_eq_fold (F := Ideal) (φ := .f32) src 0x7F800000#32 reduces_S1x32768x128_S1 (.inl rfl) rfl j).trans ?_
  rw [Finset.filter_true_of_mem fun i _ => funext fun a => by
    match a with
    | ⟨0, _⟩ => exact Subsingleton.elim (α := Fin 1) _ _]
  rfl

/-- The smallest entry, taken out of its one-entry array. -/
theorem extract_min (src : S1x32768x128.Idx → EReal) :
    (extractAt ![0, 0, 0] (shapeCast S1x1x1 (multiReduction (F := Ideal) (φ := .f32) .minimumf [1, 2] S1 src 0x7F800000#32
        reduces_S1x32768x128_S1 (.inl rfl) rfl) shapeCasts_S1_S1x1x1) inpos_S1x1x1_p0_0_0 : EReal)
      = (Finset.univ : Finset S1x32768x128.Idx).fold (FloatOps.minimumf (F := Ideal) (φ := .f32)) (Ideal.ofBits .f32 0x7F800000#32) src := by
  rw [← reduce_min src (ix1 (0 : Fin 1))]
  unfold extractAt
  exact shapeCast_apply _ _ _ _ rfl

/-- The kernel's first number, from the reshaped operand. -/
theorem pay_min (X : S32768x128.Idx → EReal) :
    (k0_pay2 (F := Ideal) X : EReal)
      = (Finset.univ : Finset S32768x128.Idx).fold (FloatOps.minimumf (F := Ideal) (φ := .f32)) (Ideal.ofBits .f32 0x7F800000#32) X := by
  rw [← fold_shapeCast _ _ X shapeCasts_S32768x128_S32768x128,
    ← fold_shapeCast _ _ (shapeCast S32768x128 X shapeCasts_S32768x128_S32768x128) shapeCasts_S32768x128_S1x32768x128,
    ← extract_min]
  rfl

/-- The body's reduction to the greatest entry is the fold over every entry. -/
theorem reduce_max (src : S1x32768x128.Idx → EReal) (j : S1.Idx) :
    (multiReduction (F := Ideal) (φ := .f32) .maximumf [1, 2] S1 src 0xFF800000#32 reduces_S1x32768x128_S1 (.inl rfl) rfl j : EReal)
      = (Finset.univ : Finset S1x32768x128.Idx).fold (FloatOps.maximumf (F := Ideal) (φ := .f32)) (Ideal.ofBits .f32 0xFF800000#32) src := by
  refine (multiReduction_maximumf_eq_fold (F := Ideal) (φ := .f32) src 0xFF800000#32 reduces_S1x32768x128_S1 (.inl rfl) rfl j).trans ?_
  rw [Finset.filter_true_of_mem fun i _ => funext fun a => by
    match a with
    | ⟨0, _⟩ => exact Subsingleton.elim (α := Fin 1) _ _]
  rfl

/-- The greatest entry, taken out of its one-entry array. -/
theorem extract_max (src : S1x32768x128.Idx → EReal) :
    (extractAt ![0, 0, 0] (shapeCast S1x1x1 (multiReduction (F := Ideal) (φ := .f32) .maximumf [1, 2] S1 src 0xFF800000#32
        reduces_S1x32768x128_S1 (.inl rfl) rfl) shapeCasts_S1_S1x1x1) inpos_S1x1x1_p0_0_0 : EReal)
      = (Finset.univ : Finset S1x32768x128.Idx).fold (FloatOps.maximumf (F := Ideal) (φ := .f32)) (Ideal.ofBits .f32 0xFF800000#32) src := by
  rw [← reduce_max src (ix1 (0 : Fin 1))]
  unfold extractAt
  exact shapeCast_apply _ _ _ _ rfl

/-- The kernel's second number, from the reshaped operand. -/
theorem pay_max (X : S32768x128.Idx → EReal) :
    (k0_pay3 (F := Ideal) X : EReal)
      = (Finset.univ : Finset S32768x128.Idx).fold (FloatOps.maximumf (F := Ideal) (φ := .f32)) (Ideal.ofBits .f32 0xFF800000#32) X := by
  rw [← fold_shapeCast _ _ X shapeCasts_S32768x128_S32768x128,
    ← fold_shapeCast _ _ (shapeCast S32768x128 X shapeCasts_S32768x128_S32768x128) shapeCasts_S32768x128_S1x32768x128,
    ← extract_max]
  rfl

/-- The reference's smallest entry. -/
theorem ref_min (x : S8x32x128x128.Idx → EReal) (j : Cert.ReferenceWIdeal.S_.Idx) :
    Host.reduce (FloatOps.minimumf (F := Ideal) (φ := .f32)) x (constant (F := Ideal) Cert.ReferenceWIdeal.S_ .f32 0x7F800000#32)
      Cert.ReferenceWIdeal.Gen.reducesTo_S8x32x128x128_S_d0_1_2_3 Cert.ReferenceWIdeal.Gen.h_S_ j = minOf x := by
  rw [Host.reduce_eq_fold, Finset.filter_true_of_mem fun i _ => funext fun a => a.elim0]
  rfl

/-- The reference's greatest entry. -/
theorem ref_max (x : S8x32x128x128.Idx → EReal) (j : Cert.ReferenceWIdeal.S_.Idx) :
    Host.reduce (FloatOps.maximumf (F := Ideal) (φ := .f32)) x (constant (F := Ideal) Cert.ReferenceWIdeal.S_ .f32 0xFF800000#32)
      Cert.ReferenceWIdeal.Gen.reducesTo_S8x32x128x128_S_d0_1_2_3 Cert.ReferenceWIdeal.Gen.h_S_ j = maxOf x := by
  rw [Host.reduce_eq_fold, Finset.filter_true_of_mem fun i _ => funext fun a => a.elim0]
  rfl

end Cert.KernelWIdeal.Hand

end
-- ==== Proof.Region0.lean ====
module

public import proofs.«01_k».proof.Proof.MinMax
public import Idealize.ShloMosaic.Lib.Pipeline.ReadBack

@[expose] public section

set_option maxRecDepth 16384

noncomputable section

namespace Cert.KernelWIdeal.Hand

open Idealize.ShloMosaic hiding ix1 ix2 ix3 ix4 ix5
open Idealize.ShloMosaic.TcCoe Idealize.ShloMosaic.ValueIdx Cert.KernelWIdeal.Gen

variable {F : FTy → Type} [FloatOps F]
/-- Two one-entry writes into a two-entry array, read back. -/
theorem two_writes {Val : EltTy → Type} [∀ e, Nonempty (Val e)] (a b : Val .f32) (y : S2.Idx) :
    View.canon (Val := Val) (s := S2) (e := .f32)
        [⟨Rect.unit ![1] ![1] inb_S2_S1_1, fun _ => b⟩, ⟨Rect.unit ![0] ![1] inb_S2_S1_0, fun _ => a⟩] y
      = if (y 0).val = 0 then a else b := by
  have h0 : (y 0).val < 2 := (y 0).isLt
  by_cases hy : (y 0).val = 0
  · have e : y = (Rect.unit (s := S2) ![0] ![1] inb_S2_S1_0).emb (ix1 (0 : Fin 1)) := by
      funext a; match a with | ⟨0, _⟩ => exact Fin.ext hy
    have hn : y ∉ (Rect.unit (s := S2) ![1] ![1] inb_S2_S1_1).set := fun hm => by
      have := (Rect.mem_set_unit.1 hm 0).1
      simp at this; omega
    rw [if_pos hy]
    refine (View.canon_cons_of_not_mem (Val := Val) (s := S2) (e := .f32)
      ⟨Rect.unit ![1] ![1] inb_S2_S1_1, fun _ => b⟩ _ hn).trans ?_
    rw [e]
    exact View.canon_cons_emb (Val := Val) (s := S2) (e := .f32) (Rect.unit ![0] ![1] inb_S2_S1_0) (fun _ => a) [] _
  · have e : y = (Rect.unit (s := S2) ![1] ![1] inb_S2_S1_1).emb (ix1 (0 : Fin 1)) := by
      funext a; match a with | ⟨0, _⟩ => exact Fin.ext (by show (y 0).val = 1; omega)
    rw [if_neg hy, e]
    exact View.canon_cons_emb (Val := Val) (s := S2) (e := .f32) (Rect.unit ![1] ![1] inb_S2_S1_1) (fun _ => b) _ _

variable (V : (c : Dev nD) → (b : Ref sig .tc) → Buf (Elt F) ((c : Thread nD τ).loc b))

/-- What the first call leaves: two numbers, the smallest entry and the greatest. -/
theorem after_minmax (c : Dev nD) (t : Fin cfg0.N) :
    (dat0 (F := F) V c).after 1 t
      = fun y => if (y 0).val = 0 then k0_pay2 (iblk0 V c 0 t) else k0_pay3 (iblk0 V c 0 t) := by
  rw [after0_1]
  unfold outsAt0
  frame_out
  simp only [read_unread_whole]
  generalize iblk0 V c 0 t = x0
  funext y
  exact two_writes _ _ y

end Cert.KernelWIdeal.Hand

end
-- ==== Proof.KernelRun.lean ====
module

public import proofs.«01_k».proof.Proof.Region0
public import Idealize.ShloMosaic.Lib.Pipeline.ValueKit

@[expose] public section

set_option maxRecDepth 16384

noncomputable section

namespace Cert.KernelWIdeal.Hand

open Idealize.ShloMosaic hiding ix1 ix2 ix3 ix4 ix5 eq_ix1 eq_ix2 eq_ix3 eq_ix4 eq_ix5
open Idealize.ShloMosaic.TcCoe Idealize.ShloMosaic.ValueIdx Cert.KernelWIdeal.Gen

variable {F : FTy → Type} [FloatOps F]
variable (V : (c : Dev nD) → (b : Ref sig .tc) → Buf (Elt F) ((c : Thread nD τ).loc b))

/-! ## Where each window's block lies -/

/-- The first call reads its operand whole. -/
theorem at0_0 : ∀ t : Fin cfg0.N, ∀ a, win0_0.index t a = 0 := by decide +kernel
/-- The first call writes its two numbers whole. -/
theorem at0_1 : ∀ t : Fin cfg0.N, ∀ a, win0_1.index t a = 0 := by decide +kernel
/-- Every step reads the two numbers whole. -/
theorem at1_0 : ∀ t : Fin cfg1.N, ∀ a, win1_0.index t a = 0 := by decide +kernel
/-- Every step reads the filter whole. -/
theorem at1_1 : ∀ t : Fin cfg1.N, ∀ a, win1_1.index t a = 0 := by decide +kernel
/-- Every step reads the packed words whole. -/
theorem at1_2 : ∀ t : Fin cfg1.N, ∀ a, win1_2.index t a = 0 := by decide +kernel
/-- Step `t` reads image `t`. -/
theorem at1_3 : ∀ t : Fin cfg1.N, win1_3.index t = ![t.val, 0, 0, 0] := by decide +kernel
/-- Step `t` writes image `t`. -/
theorem at1_4 : ∀ t : Fin cfg1.N, win1_4.index t = ![t.val, 0, 0, 0] := by decide +kernel

/-- The first call reads its operand whole. -/
theorem operand0 (c : Dev nD) (t : Fin cfg0.N) : (iblk0 V c 0 t : S32768x128.Idx → F .f32) = V c main_v0 := by
  funext y
  have e : ((cfg0.win 0).blk t).view.emb y = y := by
    funext a
    refine Fin.ext ?_
    blk_simp
    rw [at0_0]; omega
  show V c main_v0 (((cfg0.win 0).blk t).view.emb y) = _
  rw [e]

/-- The main call reads the two numbers whole. -/
theorem operand1_0 (c : Dev nD) (t : Fin cfg1.N) : (iblk1 V c 0 t : S2.Idx → F .f32) = V c main_v1 := by
  funext y
  have e : ((cfg1.win 0).blk t).view.emb y = y := by
    funext a
    refine Fin.ext ?_
    blk_simp
    rw [at1_0]; omega
  show V c main_v1 (((cfg1.win 0).blk t).view.emb y) = _
  rw [e]

/-- The main call reads the filter whole. -/
theorem operand1_1 (c : Dev nD) (t : Fin cfg1.N) : (iblk1 V c 1 t : S27.Idx → F .f32) = V c main_v2 := by
  funext y
  have e : ((cfg1.win 1).blk t).view.emb y = y := by
    funext a
    refine Fin.ext ?_
    blk_simp
    rw [at1_1]; omega
  show V c main_v2 (((cfg1.win 1).blk t).view.emb y) = _
  rw [e]

/-- The main call reads the table whole. -/
theorem operand1_2 (c : Dev nD) (t : Fin cfg1.N) : (iblk1 V c 2 t : Vec F S1x128 .i32) = V c main_arg1 := by
  funext y
  have e : ((cfg1.win 2).blk t).view.emb y = y := by
    funext a
    refine Fin.ext ?_
    blk_simp
    rw [at1_2]; omega
  show V c main_arg1 (((cfg1.win 2).blk t).view.emb y) = _
  rw [e]

/-- Point `t` of the main call reads image `t` of the operand. -/
theorem operand1_3 (c : Dev nD) (t : Fin cfg1.N) (ht : t.val < 8) :
    (iblk1 V c 3 t : S1x32x128x128.Idx → F .f32)
      = fun y => (V c main_arg0 : S8x32x128x128.Idx → F .f32) (ix4 ⟨t.val, ht⟩ (y 1) (y 2) (y 3)) := by
  funext y
  have h0 : (y 0).val < 1 := (y 0).isLt
  have e : ((cfg1.win 3).blk t).view.emb y = (ix4 ⟨t.val, ht⟩ (y 1) (y 2) (y 3) : S8x32x128x128.Idx) := by
    funext a
    refine Fin.ext ?_
    blk_simp [at1_3]
    match a with
    | ⟨0, _⟩ => show t.val * 1 + (y 0).val = t.val; omega
    | ⟨1, _⟩ => show 0 * 32 + (y 1).val = (y 1).val; omega
    | ⟨2, _⟩ => show 0 * 128 + (y 2).val = (y 2).val; omega
    | ⟨3, _⟩ => show 0 * 128 + (y 3).val = (y 3).val; omega
  show V c main_arg0 (((cfg1.win 3).blk t).view.emb y) = _
  rw [e]

/-- After the first call its array holds the two numbers. -/
theorem array0 (c : Dev nD) : (dat0 (F := F) V c).arrAt 1 cfg0.N
    = fun y : S2.Idx => if (y 0).val = 0 then k0_pay2 (V c main_v0) else k0_pay3 (V c main_v0) := by
  refine (dat0 V c).arrAt_eq_of_covers 1 _ (by decide +kernel) fun t hf y => ?_
  blk_simp
  rw [after_minmax, at0_1, show iblk0 V c 0 t = V c main_v0 from operand0 V c t]
  simp only [Nat.zero_mul, Nat.zero_add]

/-- The result, from the two numbers, the filter, the table and the operand. -/
def resultOf (mm : S2.Idx → F .f32) (f : S27.Idx → F .f32) (tab : Vec F S1x128 .i32) (x : S8x32x128x128.Idx → F .f32) :
    S8x32x128x128.Idx → F .f32 :=
  fun i => blockOf mm f tab (fun y => x (ix4 (i 0) (y 1) (y 2) (y 3))) (ix4 (0 : Fin 1) (i 1) (i 2) (i 3))

/-- After the main call its array holds the result. -/
theorem array1 (c : Dev nD) : (dat1 (F := F) V c).arrAt 4 cfg1.N
    = resultOf (V c main_v1) (V c main_v2) (V c main_arg1) (V c main_arg0) := by
  refine (dat1 V c).arrAt_eq_of_covers 4 _ (by decide +kernel) fun t hf y => ?_
  blk_simp
  have ht : t.val < 8 := t.isLt
  have h0 : (y 0).val < 1 := (y 0).isLt
  have e : ((cfg1.win 4).blk t).view.emb y = (ix4 ⟨t.val, ht⟩ (y 1) (y 2) (y 3) : S8x32x128x128.Idx) := by
    funext a
    refine Fin.ext ?_
    blk_simp [at1_4]
    match a with
    | ⟨0, _⟩ => show t.val * 1 + (y 0).val = t.val; omega
    | ⟨1, _⟩ => show 0 * 32 + (y 1).val = (y 1).val; omega
    | ⟨2, _⟩ => show 0 * 128 + (y 2).val = (y 2).val; omega
    | ⟨3, _⟩ => show 0 * 128 + (y 3).val = (y 3).val; omega
  have ey : y = (ix4 (0 : Fin 1) (y 1) (y 2) (y 3) : S1x32x128x128.Idx) := by
    funext a
    match a with
    | ⟨0, _⟩ => exact Fin.ext (by show (y 0).val = 0; omega)
    | ⟨1, _⟩ => rfl
    | ⟨2, _⟩ => rfl
    | ⟨3, _⟩ => rfl
  rw [show (win1_4.blk t).view.emb y = (ix4 ⟨t.val, ht⟩ (y 1) (y 2) (y 3) : S8x32x128x128.Idx) from e]
  rw [after_main, show iblk1 V c 0 t = V c main_v1 from operand1_0 V c t, show iblk1 V c 1 t = V c main_v2 from operand1_1 V c t,
    show iblk1 V c 2 t = V c main_arg1 from operand1_2 V c t, show iblk1 V c 3 t = _ from operand1_3 V c t ht]
  exact congrArg _ ey

end Cert.KernelWIdeal.Hand

end
-- ==== Proof.KernelValue.lean ====
module

public import proofs.«01_k».proof.Proof.KernelRun

@[expose] public section

set_option maxRecDepth 16384

noncomputable section

namespace Cert.KernelWIdeal.Hand

open Idealize.ShloMosaic hiding ix1 ix2 ix3 ix4 ix5 eq_ix1 eq_ix2 eq_ix3 eq_ix4 eq_ix5
open Idealize.ShloMosaic.TcCoe Idealize.ShloMosaic.ValueIdx Cert.KernelWIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first call's operand is the reshaped argument. -/
theorem entry_v0 (c : Dev nD) : (V1 m ρ c main_v0 : S32768x128.Idx → F .f32)
    = shapeCast S32768x128 (m ((c : Thread nD τ).loc main_arg0) : S8x32x128x128.Idx → F .f32) shapeCasts_S8x32x128x128_S32768x128 := by
  rfl

/-- The main call's two numbers are those the first call leaves. -/
theorem entry_v1 (c : Dev nD) : (V3 m ρ c main_v1 : S2.Idx → F .f32)
    = fun y => if (y 0).val = 0
        then k0_pay2 (shapeCast S32768x128 (m ((c : Thread nD τ).loc main_arg0) : S8x32x128x128.Idx → F .f32) shapeCasts_S8x32x128x128_S32768x128)
        else k0_pay3 (shapeCast S32768x128 (m ((c : Thread nD τ).loc main_arg0) : S8x32x128x128.Idx → F .f32) shapeCasts_S8x32x128x128_S32768x128) := by
  refine (W3_of m ρ c main_v1 (by decide)).trans ((W2_arr m ρ c 1).trans ?_)
  rw [array0, ← entry_v0 m ρ c]
  rfl

/-- The main call's filter is the reshaped argument. -/
theorem entry_v2 (c : Dev nD) : (V3 m ρ c main_v2 : S27.Idx → F .f32)
    = shapeCast S27 (m ((c : Thread nD τ).loc main_arg2) : S3x3x3.Idx → F .f32) shapeCasts_S3x3x3_S27 := by
  have e := W2_args m ρ c main_arg2 (by decide)
  rw [← e]
  rfl

/-- The kernel's result, from its arguments. -/
def kernelOut (c : Dev nD) : S8x32x128x128.Idx → F .f32 :=
  resultOf (fun y => if (y 0).val = 0
        then k0_pay2 (shapeCast S32768x128 (m ((c : Thread nD τ).loc main_arg0) : S8x32x128x128.Idx → F .f32) shapeCasts_S8x32x128x128_S32768x128)
        else k0_pay3 (shapeCast S32768x128 (m ((c : Thread nD τ).loc main_arg0) : S8x32x128x128.Idx → F .f32) shapeCasts_S8x32x128x128_S32768x128))
    (shapeCast S27 (m ((c : Thread nD τ).loc main_arg2) : S3x3x3.Idx → F .f32) shapeCasts_S3x3x3_S27)
    (m ((c : Thread nD τ).loc main_arg1)) (m ((c : Thread nD τ).loc main_arg0))

/-- The result array after the run. -/
theorem exit_v3 (c : Dev nD) : (W4 m ρ c (Proc.devRef .tc main_v3) : S8x32x128x128.Idx → F .f32) = kernelOut m c := by
  refine (W4_arr m ρ c 4).trans ((array1 (V3 m ρ) c).trans ?_)
  unfold kernelOut
  refine (congrArg₂ (fun a b => resultOf a b (V3 m ρ c main_arg1) (V3 m ρ c main_arg0)) (entry_v1 m ρ c) (entry_v2 m ρ c)).trans ?_
  exact congrArg₂ (fun a b => resultOf _ _ a b) (W3_args m ρ c main_arg1 (by decide)) (W3_args m ρ c main_arg0 (by decide))

-- the implicit arguments of the launch are found by unifying its conclusion with this one, which takes unfolding plain
-- definitions in a metavariable's type
set_option backward.isDefEq.respectTransparency.types false in
/-- The run with the result read: every weakly fair execution ends with the result array at `kernelOut` and the arguments
    unchanged. -/
theorem run : θ_run defs (onTc (τ := τ) (main (F := F))) ⟨m, fun _ => 0, ρ⟩ (fun r => ∀ c : Dev nD,
      r.2.mem ((c.tc : Thread nD τ).loc main_v3) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v3 (by decide))).trans (exit_v3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelWIdeal.Hand

end
-- ==== Proof.KernelIdeal.lean ====
module

public import proofs.«01_k».proof.Proof.KernelValue

@[expose] public section

set_option maxRecDepth 16384

noncomputable section

namespace Cert.KernelWIdeal.Hand

open Idealize.ShloMosaic hiding ix1 ix2 ix3 ix4 ix5 eq_ix1 eq_ix2 eq_ix3 eq_ix4 eq_ix5
open Idealize.ShloMosaic.TcCoe Idealize.ShloMosaic.ValueIdx Cert.KernelWIdeal.Gen

/-- The whole result on the extended reals, from the operand, the packed words and the filter: every image is a block, its
    bins cut by the smallest and the greatest entry of the whole operand. -/
def answer (x : S8x32x128x128.Idx → EReal) (tab : Vec Ideal S1x128 .i32) (f : S3x3x3.Idx → EReal) : S8x32x128x128.Idx → EReal :=
  fun i => pixel (minOf x) (maxOf x) (fun a b k => f (ix3 a b k)) tab (fun y => x (ix4 (i 0) (y 0) (y 1) (y 2))) (i 1) (i 2) (i 3)

/-- A filter entry read through the flattened filter. -/
theorem filter_apply (f : S3x3x3.Idx → EReal) (i j k : Fin 3) :
    shapeCast S27 f shapeCasts_S3x3x3_S27 (ix1 (⟨i.val * 9 + j.val * 3 + k.val, by omega⟩ : Fin 27)) = f (ix3 i j k) := by
  refine shapeCast_apply _ _ _ _ ?_
  rw [Shape.rowMajor_val_three, Shape.rowMajor_val_one]
  show (i.val * 3 + j.val) * 3 + k.val = i.val * 9 + j.val * 3 + k.val
  omega

/-- The kernel's result is the answer. -/
theorem kernelOut_eq (m : (ℓ : Loc nD τ sig) → Buf (Elt Ideal) ℓ) (c : Dev nD) :
    (kernelOut (F := Ideal) m c : S8x32x128x128.Idx → EReal)
      = answer (m ((c : Thread nD τ).loc main_arg0)) (m ((c : Thread nD τ).loc main_arg1)) (m ((c : Thread nD τ).loc main_arg2)) := by
  funext i
  unfold kernelOut resultOf answer
  generalize (m ((c : Thread nD τ).loc main_arg0) : S8x32x128x128.Idx → EReal) = x
  generalize (m ((c : Thread nD τ).loc main_arg2) : S3x3x3.Idx → EReal) = f
  generalize (m ((c : Thread nD τ).loc main_arg1) : Vec Ideal S1x128 .i32) = tab
  refine (blockOf_apply _ _ _ _ _ _ _ _).trans ?_
  have hmn : (k0_pay2 (F := Ideal) (shapeCast S32768x128 x shapeCasts_S8x32x128x128_S32768x128) : EReal) = minOf x :=
    (pay_min _).trans (fold_shapeCast (FloatOps.minimumf (F := Ideal) (φ := .f32)) (Ideal.ofBits .f32 0x7F800000#32) x _)
  have hmx : (k0_pay3 (F := Ideal) (shapeCast S32768x128 x shapeCasts_S8x32x128x128_S32768x128) : EReal) = maxOf x :=
    (pay_max _).trans (fold_shapeCast (FloatOps.maximumf (F := Ideal) (φ := .f32)) (Ideal.ofBits .f32 0xFF800000#32) x _)
  rw [← hmn, ← hmx]
  rw [show (fun a b k => f (ix3 a b k)) = fun i j k : Fin 3 => shapeCast S27 f shapeCasts_S3x3x3_S27 (ix1 (⟨i.val * 9 + j.val * 3 + k.val, by omega⟩ : Fin 27))
    from funext fun a => funext fun b => funext fun k => (filter_apply f a b k).symm]
  rfl

end Cert.KernelWIdeal.Hand

end
-- ==== Proof.RefParts.lean ====
module

public import proofs.«01_k».proof.Proof.MinMax
public import proofs.«01_k».proof.Proof.Pixel
public import Idealize.ShloMosaic.Lib.ValueIdxRank6
public import Idealize.ShloMosaic.Lib.KernelVsHost
public import Idealize.ShloMosaic.Lib.IdealHost

@[expose] public section

set_option maxRecDepth 16384

noncomputable section

namespace Cert.ReferenceWIdeal.Hand

open Idealize.ShloMosaic hiding ix0 ix1 ix2 ix3 ix4 ix5 ix6 eq_ix1 eq_ix2 eq_ix3 eq_ix4 eq_ix5 eq_ix6
open Idealize.ShloMosaic.TcCoe Idealize.ShloMosaic.ValueIdx Cert.ReferenceWIdeal Cert.ReferenceWIdeal.Gen
open Cert.KernelWIdeal.Hand (weightAt bin binWord binWord_eq padRead pixel minOf maxOf ref_min ref_max)

/-! ## The pieces of the reference, each read at an index -/

/-- A bin word, read signed and clamped to the table, is the bin. -/
theorem bin_start : ∀ r : Fin 16, min (BitVec.ofNat 32 r.val).toInt.toNat 15 = r.val := by decide +kernel

/-- A bin word is not negative, so the wrap of negative indices leaves it. -/
theorem bin_wrap : ∀ r : Fin 16, Scalar.select (IntOp.cmpi .slt (BitVec.ofNat 32 r.val) 0#32)
    (IntOp.addi (BitVec.ofNat 32 r.val) 16#32) (BitVec.ofNat 32 r.val) = BitVec.ofNat 32 r.val := by decide +kernel

/-- A bin word passes the range test of the last lookup. -/
theorem bin_range : ∀ r : Fin 16, IntOp.andi (IntOp.cmpi .sge (BitVec.ofNat 32 r.val) 0#32)
    (IntOp.cmpi .sle (BitVec.ofNat 32 r.val) 15#32) = 1#1 := by decide +kernel

/-- The dimension numbers of the lookup of table columns. -/
abbrev colsDims := gather_S16x16_S8x32x128x128x1_S16x8x32x128x128_0_1_n_n_1_4_161

/-- The dimension numbers of the last lookup. -/
abbrev rowsDims := gather_S8x16x32x128x128_S8x1x32x128x128x1_S8x1x32x128x128_n_1_0234_0234_1_5_11111

/-- The lookup of table columns: entry `(r, n, c, h, w)` is row `r` of the column the index names. -/
theorem columns_apply {α : Type} (x : S16x16.Idx → α) (idx : IVec S8x32x128x128x1 32) (s : Fin 16)
    (r : Fin 16) (n : Fin 8) (c : Fin 32) (h w : Fin 128)
    (hs : idx (ix5 n c h w (0 : Fin 1)) = BitVec.ofNat 32 s.val) :
    Host.gather colsDims x idx (ix5 r n c h w) = x (ix2 r s) := by
  unfold Host.gather
  congr 1
  funext a
  refine Fin.ext ?_
  show GatherDims.start colsDims (ix5 r n c h w) idx a
    + GatherDims.batchCoord colsDims (ix5 r n c h w) a
    + GatherDims.offCoord colsDims (ix5 r n c h w) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ colsDims.startIndexMap from (by decide : (0 : Fin 2) ∉ [(1 : Fin 2)]))]
    unfold GatherDims.offCoord
    rw [dif_pos (show (0 : Fin 2) ∈ GatherDims.sKept colsDims by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ colsDims.startIndexMap from List.mem_singleton.mpr rfl)]
    have hsi : GatherDims.siIdx colsDims (ix5 r n c h w)
        ⟨List.idxOf (1 : Fin 2) colsDims.startIndexMap, List.idxOf_lt_length_iff.2 (List.mem_singleton.mpr rfl)⟩ = ix5 n c h w (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    have hsi' := congrArg idx hsi
    rw [hs] at hsi'
    exact (congrArg (fun u : BitVec 32 => min u.toInt.toNat 15) hsi').trans (bin_start s)

/-- The last lookup: the entry of the row the index names, at the same pixel. -/
theorem rows_apply {α : Type} (x : S8x16x32x128x128.Idx → α) (idx : IVec S8x1x32x128x128x1 32) (r : Fin 16)
    (n : Fin 8) (c : Fin 32) (h w : Fin 128)
    (hr : idx (ix6 n (0 : Fin 1) c h w (0 : Fin 1)) = BitVec.ofNat 32 r.val) :
    Host.gather rowsDims x idx (ix5 n (0 : Fin 1) c h w)
      = x (ix5 n r c h w) := by
  unfold Host.gather
  congr 1
  funext a
  refine Fin.ext ?_
  show GatherDims.start rowsDims (ix5 n (0 : Fin 1) c h w) idx a
    + GatherDims.batchCoord rowsDims (ix5 n (0 : Fin 1) c h w) a
    + GatherDims.offCoord rowsDims (ix5 n (0 : Fin 1) c h w) a = _
  rw [GatherDims.offCoord_eq_zero _ _ _ (fun h => by
    obtain ⟨h1, h2⟩ := (GatherDims.mem_sKept _ _).mp h
    exact (by decide : ∀ a : Fin 5, ¬ (a ∉ [(1 : Fin 5)] ∧ a ∉ [(0 : Fin 5), 2, 3, 4])) a ⟨h1, h2⟩)]
  have hcase : a ∈ rowsDims.operandBatchingDims ∨ a = 1 :=
    (by decide : ∀ a : Fin 5, a ∈ [(0 : Fin 5), 2, 3, 4] ∨ a = 1) a
  rcases hcase with hb | rfl
  · rw [GatherDims.start_batching _ _ _ _ hb]
    unfold GatherDims.batchCoord
    rw [dif_pos hb]
    simp only [Nat.zero_add, Nat.add_zero]
    match a with
    | ⟨0, _⟩ => rfl
    | ⟨1, _⟩ => exact absurd hb (show (1 : Fin 5) ∉ rowsDims.operandBatchingDims from (by decide : (1 : Fin 5) ∉ [(0 : Fin 5), 2, 3, 4]))
    | ⟨2, _⟩ => rfl
    | ⟨3, _⟩ => rfl
    | ⟨4, _⟩ => rfl
  · rw [GatherDims.batchCoord_eq_zero _ _ _ (show (1 : Fin 5) ∉ rowsDims.operandBatchingDims from (by decide : (1 : Fin 5) ∉ [(0 : Fin 5), 2, 3, 4]))]
    simp only [Nat.add_zero]
    unfold GatherDims.start
    rw [dif_pos (show (1 : Fin 5) ∈ rowsDims.startIndexMap from List.mem_singleton.mpr rfl)]
    have hsi : GatherDims.siIdx rowsDims (ix5 n (0 : Fin 1) c h w)
        ⟨List.idxOf (1 : Fin 5) rowsDims.startIndexMap, List.idxOf_lt_length_iff.2 (List.mem_singleton.mpr rfl)⟩
          = ix6 n (0 : Fin 1) c h w (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    have hsi' := congrArg idx hsi
    rw [hr] at hsi'
    exact (congrArg (fun u : BitVec 32 => min u.toInt.toNat 15) hsi').trans (bin_start r)

/-- The weight table the packed words hold, entry by entry. -/
theorem table_apply (tab : Vec Ideal S1x128 .i32) (r s : Fin 16) :
    (shapeCast S16x16 (concatenate S1x128x2 2
        [⟨S1x128x1, (broadcastInDim S1x128x1 ![0, 1] bcast_S1x128_S1x128x1_0_1 (bitcastToFloat (F := Ideal) .f32
          (Host.shli tab (broadcastInDim S1x128 ![] bcast_S_S1x128 (constantI S_ 32 16#32)))))⟩,
         ⟨S1x128x1, (broadcastInDim S1x128x1 ![0, 1] bcast_S1x128_S1x128x1_0_1 (bitcastToFloat (F := Ideal) .f32
          (andi tab (broadcastInDim S1x128 ![] bcast_S_S1x128 (constantI S_ 32 4294901760#32)))))⟩]
        concatenates_S1x128x1_S1x128x1_S1x128x2_d2) shapeCasts_S1x128x2_S16x16 (ix2 r s) : EReal)
      = weightAt (F := Ideal) tab r s := by
  rw [shapeCast_apply _ _ _ (ix3 (0 : Fin 1) (⟨r.val * 8 + s.val / 2, by omega⟩ : Fin 128) (⟨s.val % 2, by omega⟩ : Fin 2)) (by
    rw [Shape.rowMajor_val_two, Shape.rowMajor_val_three]
    show (0 * 128 + (r.val * 8 + s.val / 2)) * 2 + s.val % 2 = r.val * 16 + s.val
    omega)]
  unfold weightAt
  by_cases hs : s.val % 2 = 1
  · rw [concatenate_pair_apply_right (t := S1x128x2) (s₁ := S1x128x1) (s₂ := S1x128x1) (2 : Fin 3) _ _ _ _ rfl rfl (ix3 (0 : Fin 1) (⟨r.val * 8 + s.val / 2, by omega⟩ : Fin 128) (0 : Fin 1))
      (fun b hb => by
        match b with
        | ⟨0, _⟩ => rfl
        | ⟨1, _⟩ => rfl
        | ⟨2, _⟩ => exact absurd rfl hb)
      (by show 0 + 1 = s.val % 2; omega)]
    rw [broadcastInDim_apply _ _ _ _ (ix2 (0 : Fin 1) (⟨r.val * 8 + s.val / 2, by omega⟩ : Fin 128)) (fun a => by
      match a with
      | ⟨0, _⟩ => rfl
      | ⟨1, _⟩ => rfl)]
    simp only [hs, if_true]
    rfl
  · rw [concatenate_pair_apply_left (t := S1x128x2) (s₁ := S1x128x1) (s₂ := S1x128x1) (2 : Fin 3) _ _ _ _ rfl (ix3 (0 : Fin 1) (⟨r.val * 8 + s.val / 2, by omega⟩ : Fin 128) (0 : Fin 1))
      (fun b => by
        match b with
        | ⟨0, _⟩ => rfl
        | ⟨1, _⟩ => rfl
        | ⟨2, _⟩ => show 0 = s.val % 2; omega)]
    rw [broadcastInDim_apply _ _ _ _ (ix2 (0 : Fin 1) (⟨r.val * 8 + s.val / 2, by omega⟩ : Fin 128)) (fun a => by
      match a with
      | ⟨0, _⟩ => rfl
      | ⟨1, _⟩ => rfl)]
    simp only [hs, if_false]
    show FloatOps.ofBits .f32 (IntOp.shli .host (tab _) 16#32) = FloatOps.ofBits .f32 ((tab _) <<< (16 : Nat))
    congr 1

/-- The bins, from the operand alone. -/
theorem bins_apply (V0 : Valuation τ sig (Elt Ideal)) (i : S8x32x128x128.Idx) :
    Value.res_main_v20 V0 i = BitVec.ofNat 32 (bin (minOf (V0 (Proc.devRef .tc main_arg0))) (maxOf (V0 (Proc.devRef .tc main_arg0)))
      ((V0 (Proc.devRef .tc main_arg0) : S8x32x128x128.Idx → EReal) i)).val := by
  rw [← binWord_eq]
  unfold Value.res_main_v20 binWord
  generalize (V0 (Proc.devRef .tc main_arg0) : S8x32x128x128.Idx → EReal) = x
  have hmn : broadcastInDim S8x32x128x128 ![] bcast_S_S8x32x128x128 (Host.reduce (FloatOps.minimumf (F := Ideal) (φ := .f32)) x
      (constant (F := Ideal) S_ .f32 0x7F800000#32) reducesTo_S8x32x128x128_S_d0_1_2_3 h_S_) = fun _ => minOf x :=
    funext fun j => (broadcastInDim_scalar_apply _ _ j).trans (ref_min x _)
  have hmx : broadcastInDim S8x32x128x128 ![] bcast_S_S8x32x128x128 (Host.reduce (FloatOps.maximumf (F := Ideal) (φ := .f32)) x
      (constant (F := Ideal) S_ .f32 0xFF800000#32) reducesTo_S8x32x128x128_S_d0_1_2_3 h_S_) = fun _ => maxOf x :=
    funext fun j => (broadcastInDim_scalar_apply _ _ j).trans (ref_max x _)
  rw [hmn, hmx]
  generalize minOf x = mn
  generalize maxOf x = mx
  rfl

end Cert.ReferenceWIdeal.Hand

end
-- ==== Proof.RefValue.lean ====
module

public import proofs.«01_k».proof.Proof.RefParts
public import proofs.«01_k».proof.Proof.KernelIdeal
public import Idealize.ShloMosaic.Lib.ReduceAll

@[expose] public section

set_option maxRecDepth 16384

noncomputable section

namespace Cert.ReferenceWIdeal.Hand

open Idealize.ShloMosaic hiding ix0 ix1 ix2 ix3 ix4 ix5 ix6 eq_ix1 eq_ix2 eq_ix3 eq_ix4 eq_ix5 eq_ix6
open Idealize.ShloMosaic.TcCoe Idealize.ShloMosaic.ValueIdx Cert.ReferenceWIdeal Cert.ReferenceWIdeal.Gen
open Cert.KernelWIdeal.Hand (weightAt bin binWord binWord_eq padRead pixel minOf maxOf answer)

/-! ## The reference's value -/

/-- The reference's weighted and padded array, from the table, the bins and the operand. -/
def weighted (co : S16x16.Idx → EReal) (b : IVec S8x32x128x128 32) (x : S8x32x128x128.Idx → EReal) : S8x16x34x130x130.Idx → EReal :=
  pad S8x16x34x130x130 ![0, 0, 1, 1, 1] ![0, 0, 1, 1, 1] ![0, 0, 0, 0, 0] (transpose S8x16x32x128x128 [1, 0, 2, 3, 4] (mulf (F := Ideal) (φ := .f32)
    (Host.gather colsDims co (broadcastInDim S8x32x128x128x1 ![0, 1, 2, 3] bcast_S8x32x128x128_S8x32x128x128x1_0_1_2_3
      (select (cmpi .slt b (broadcastInDim S8x32x128x128 ![] bcast_S_S8x32x128x128 (constantI S_ 32 0#32)))
        (addi b (broadcastInDim S8x32x128x128 ![] bcast_S_S8x32x128x128 (constantI S_ 32 16#32))) b)))
    (broadcastInDim S16x8x32x128x128 ![0, 1, 2, 3, 4] bcast_S1x8x32x128x128_S16x8x32x128x128_0_1_2_3_4
      (broadcastInDim S1x8x32x128x128 ![1, 2, 3, 4] bcast_S8x32x128x128_S1x8x32x128x128_1_2_3_4 x)))
    transposes_S16x8x32x128x128_S8x16x32x128x128_1_0_2_3_4) (sitofp (F := Ideal) .f32 (constantI S_ 32 0#32))
    pads_S8x16x32x128x128_S8x16x34x130x130_000_000_110_110_110 h_S_

/-- The weighted array before padding: the table entry of the row and of the pixel's bin, times the pixel. -/
theorem products_apply (co : S16x16.Idx → EReal) (b : IVec S8x32x128x128 32) (bn : S8x32x128x128.Idx → Fin 16)
    (hb : ∀ i, b i = BitVec.ofNat 32 (bn i).val) (x : S8x32x128x128.Idx → EReal)
    (r : Fin 16) (n : Fin 8) (c : Fin 32) (h w : Fin 128) :
    (mulf (F := Ideal) (φ := .f32)
      (Host.gather colsDims co (broadcastInDim S8x32x128x128x1 ![0, 1, 2, 3] bcast_S8x32x128x128_S8x32x128x128x1_0_1_2_3
        (select (cmpi .slt b (broadcastInDim S8x32x128x128 ![] bcast_S_S8x32x128x128 (constantI S_ 32 0#32)))
          (addi b (broadcastInDim S8x32x128x128 ![] bcast_S_S8x32x128x128 (constantI S_ 32 16#32))) b)))
      (broadcastInDim S16x8x32x128x128 ![0, 1, 2, 3, 4] bcast_S1x8x32x128x128_S16x8x32x128x128_0_1_2_3_4
        (broadcastInDim S1x8x32x128x128 ![1, 2, 3, 4] bcast_S8x32x128x128_S1x8x32x128x128_1_2_3_4 x)) (ix5 r n c h w) : EReal)
      = co (ix2 r (bn (ix4 n c h w))) * x (ix4 n c h w) := by
  rw [mulf_apply]
  rw [columns_apply co _ (bn (ix4 n c h w)) r n c h w ?_]
  · rw [broadcastInDim_apply _ _ _ (ix5 r n c h w) (ix5 (0 : Fin 1) n c h w) (fun a => by
      match a with
      | ⟨0, _⟩ => rfl
      | ⟨1, _⟩ => rfl
      | ⟨2, _⟩ => rfl
      | ⟨3, _⟩ => rfl
      | ⟨4, _⟩ => rfl)]
    rw [broadcastInDim_apply _ _ _ (ix5 (0 : Fin 1) n c h w) (ix4 n c h w) (fun a => by
      match a with
      | ⟨0, _⟩ => rfl
      | ⟨1, _⟩ => rfl
      | ⟨2, _⟩ => rfl
      | ⟨3, _⟩ => rfl)]
  · rw [broadcastInDim_apply _ _ _ (ix5 n c h w (0 : Fin 1)) (ix4 n c h w) (fun a => by
      match a with
      | ⟨0, _⟩ => rfl
      | ⟨1, _⟩ => rfl
      | ⟨2, _⟩ => rfl
      | ⟨3, _⟩ => rfl)]
    show Scalar.select (IntOp.cmpi .slt (b (ix4 n c h w)) 0#32) (IntOp.addi (b (ix4 n c h w)) 16#32) (b (ix4 n c h w)) = _
    rw [hb]
    exact bin_wrap _

/-- The weighted and padded array, read anywhere: the padded read of the products. -/
theorem weighted_apply (co : S16x16.Idx → EReal) (b : IVec S8x32x128x128 32) (bn : S8x32x128x128.Idx → Fin 16)
    (hb : ∀ i, b i = BitVec.ofNat 32 (bn i).val) (x : S8x32x128x128.Idx → EReal)
    (n : Fin 8) (r : Fin 16) (c : Fin 34) (h w : Fin 130) :
    weighted co b x (ix5 n r c h w)
      = padRead 0 (fun y : Cert.KernelWIdeal.S32x128x128.Idx => co (ix2 r (bn (ix4 n (y 0) (y 1) (y 2)))) * x (ix4 n (y 0) (y 1) (y 2)))
          c.val h.val w.val := by
  unfold weighted padRead
  split
  · rename_i hin
    rw [pad_apply_of_inside _ _ _ _ _ _ _ (ix5 n r c h w)
      (ix5 n r (⟨c.val - 1, by omega⟩ : Fin 32) (⟨h.val - 1, by omega⟩ : Fin 128) (⟨w.val - 1, by omega⟩ : Fin 128)) (fun a => by
        match a with
        | ⟨0, _⟩ => show n.val = 0 + n.val * (0 + 1); omega
        | ⟨1, _⟩ => show r.val = 0 + r.val * (0 + 1); omega
        | ⟨2, _⟩ => show c.val = 1 + (c.val - 1) * (0 + 1); omega
        | ⟨3, _⟩ => show h.val = 1 + (h.val - 1) * (0 + 1); omega
        | ⟨4, _⟩ => show w.val = 1 + (w.val - 1) * (0 + 1); omega)]
    rw [transpose_apply _ _ _ _
      (ix5 r n (⟨c.val - 1, by omega⟩ : Fin 32) (⟨h.val - 1, by omega⟩ : Fin 128) (⟨w.val - 1, by omega⟩ : Fin 128)) (fun a => by
        match a with
        | ⟨0, _⟩ => rfl
        | ⟨1, _⟩ => rfl
        | ⟨2, _⟩ => rfl
        | ⟨3, _⟩ => rfl
        | ⟨4, _⟩ => rfl)]
    exact products_apply co b bn hb x r n _ _ _
  · rename_i hin
    have hz : (sitofp (F := Ideal) .f32 (constantI S_ 32 0#32) (Shape.Idx.first h_S_) : EReal) = 0 := by
      show (((0#32 : BitVec 32).toInt : ℝ) : EReal) = 0
      simp
    by_cases h1 : 1 ≤ c.val ∧ c.val ≤ 32
    · by_cases h2 : 1 ≤ h.val ∧ h.val ≤ 128
      · rw [pad_apply_of_not_inside _ _ _ _ _ _ _ (ix5 n r c h w) (4 : Fin 5) ?_]
        · exact hz
        · show ¬ (1 ≤ w.val ∧ (w.val - 1) % (0 + 1) = 0 ∧ (w.val - 1) / (0 + 1) < 128)
          omega
      · rw [pad_apply_of_not_inside _ _ _ _ _ _ _ (ix5 n r c h w) (3 : Fin 5) ?_]
        · exact hz
        · show ¬ (1 ≤ h.val ∧ (h.val - 1) % (0 + 1) = 0 ∧ (h.val - 1) / (0 + 1) < 128)
          omega
    · rw [pad_apply_of_not_inside _ _ _ _ _ _ _ (ix5 n r c h w) (2 : Fin 5) ?_]
      · exact hz
      · show ¬ (1 ≤ c.val ∧ (c.val - 1) % (0 + 1) = 0 ∧ (c.val - 1) / (0 + 1) < 32)
        omega

/-- One filter entry times one shifted slice of the padded array, at a pixel. -/
theorem part_apply (f : S3x3x3.Idx → EReal) (z : S8x16x34x130x130.Idx → EReal) (g : Cert.KernelWIdeal.S32x128x128.Idx → EReal)
    (n : Fin 8) (r : Fin 16) (hz : ∀ (c : Fin 34) (h w : Fin 130), z (ix5 n r c h w) = padRead 0 g c.val h.val w.val)
    (i j k : Nat) (hi : i < 3) (hj : j < 3) (hk : k < 3) (h1 : S3x3x3.Slices ![i, j, k] S1x1x1)
    (h2 : S8x16x34x130x130.Slices ![0, 0, i, j, k] S8x16x32x128x128) (c : Fin 32) (h w : Fin 128) :
    (mulf (F := Ideal) (φ := .f32) (broadcastInDim S8x16x32x128x128 ![] bcast_S_S8x16x32x128x128
        (shapeCast S_ (extractStridedSlice S1x1x1 ![i, j, k] f h1) shapeCasts_S1x1x1_S_))
      (extractStridedSlice S8x16x32x128x128 ![0, 0, i, j, k] z h2) (ix5 n r c h w) : EReal)
      = f (ix3 (⟨i, hi⟩ : Fin 3) (⟨j, hj⟩ : Fin 3) (⟨k, hk⟩ : Fin 3)) * padRead 0 g (c.val + i) (h.val + j) (w.val + k) := by
  rw [mulf_apply, broadcastInDim_scalar_apply]
  rw [shapeCast_apply _ shapeCasts_S1x1x1_S_ ix0 (ix3 (0 : Fin 1) (0 : Fin 1) (0 : Fin 1)) (by rfl)]
  rw [extractStridedSlice_apply _ f _ _ (ix3 (⟨i, hi⟩ : Fin 3) (⟨j, hj⟩ : Fin 3) (⟨k, hk⟩ : Fin 3)) (fun a => by
    match a with
    | ⟨0, _⟩ => rfl
    | ⟨1, _⟩ => rfl
    | ⟨2, _⟩ => rfl)]
  rw [extractStridedSlice_apply _ z _ _ (ix5 n r (⟨c.val + i, by omega⟩ : Fin 34) (⟨h.val + j, by omega⟩ : Fin 130) (⟨w.val + k, by omega⟩ : Fin 130)) (fun a => by
    match a with
    | ⟨0, _⟩ => exact (Nat.zero_add _).symm
    | ⟨1, _⟩ => exact (Nat.zero_add _).symm
    | ⟨2, _⟩ => exact Nat.add_comm _ _
    | ⟨3, _⟩ => exact Nat.add_comm _ _
    | ⟨4, _⟩ => exact Nat.add_comm _ _)]
  rw [hz]

/-- The last lookup with its range test, from the filtered rows and the index words. -/
def finished (conv : S8x16x32x128x128.Idx → EReal) (idx : IVec S8x1x32x128x128x1 32) : S8x32x128x128.Idx → EReal :=
  shapeCast S8x32x128x128 (select (Host.reduce IntOp.andi (andi (cmpi .sge idx (broadcastInDim S8x1x32x128x128x1 ![] bcast_S_S8x1x32x128x128x1 (constantI S_ 32 0#32))) (cmpi .sle idx (broadcastInDim S8x1x32x128x128x1 ![0, 1, 2, 3, 4, 5] bcast_S1x1x1x1x1x1_S8x1x32x128x128x1_0_1_2_3_4_5 (broadcastInDim S1x1x1x1x1x1 ![5] bcast_S1_S1x1x1x1x1x1_5 (constantI S1 32 15#32))))) (constantI S_ 1 1#1) reducesTo_S8x1x32x128x128x1_S8x1x32x128x128_d5 h_S_) (Host.gather rowsDims conv idx) (broadcastInDim S8x1x32x128x128 ![] bcast_S_S8x1x32x128x128 (constant (F := Ideal) S_ .f32 0x7FC00000#32))) shapeCasts_S8x1x32x128x128_S8x32x128x128

/-- The last lookup at a pixel whose index words all write bins: the filtered row of the pixel's bin. -/
theorem finished_apply (conv : S8x16x32x128x128.Idx → EReal) (idx : IVec S8x1x32x128x128x1 32) (bn : S8x32x128x128.Idx → Fin 16)
    (hidx : ∀ n c h w, idx (ix6 n (0 : Fin 1) c h w (0 : Fin 1)) = BitVec.ofNat 32 (bn (ix4 n c h w)).val)
    (n : Fin 8) (c : Fin 32) (h w : Fin 128) : finished conv idx (ix4 n c h w) = conv (ix5 n (bn (ix4 n c h w)) c h w) := by
  unfold finished
  rw [shapeCast_apply _ _ _ (ix5 n (0 : Fin 1) c h w) (by
    rw [Shape.rowMajor_val_five, Shape.rowMajor_val_four]; simp [ix4, ix5])]
  rw [select_apply]
  rw [Host.reduce_andi_one _ _ _ _ _ rfl (fun i => ?_)]
  · exact rows_apply conv idx _ n c h w (hidx n c h w)
  · have e : i = ix6 (i 0) (0 : Fin 1) (i 2) (i 3) (i 4) (0 : Fin 1) := by
      funext a
      match a with
      | ⟨0, _⟩ => rfl
      | ⟨1, _⟩ => exact Subsingleton.elim (α := Fin 1) _ _
      | ⟨2, _⟩ => rfl
      | ⟨3, _⟩ => rfl
      | ⟨4, _⟩ => rfl
      | ⟨5, _⟩ => exact Subsingleton.elim (α := Fin 1) _ _
    exact (congrArg (fun u : BitVec 32 => IntOp.andi (IntOp.cmpi .sge u 0#32) (IntOp.cmpi .sle u 15#32))
      ((congrArg idx e).trans (hidx (i 0) (i 2) (i 3) (i 4)))).trans (bin_range _)

/-- The index words, given one more unit axis, are the same words. -/
theorem unit_axis {α : Type} (a : S8x1x32x128x128.Idx → α) (n : Fin 8) (c : Fin 32) (h w : Fin 128) :
    shapeCast S8x1x32x128x128x1 a shapeCasts_S8x1x32x128x128_S8x1x32x128x128x1 (ix6 n (0 : Fin 1) c h w (0 : Fin 1))
      = a (ix5 n (0 : Fin 1) c h w) := by
  refine shapeCast_apply _ _ _ _ ?_
  rw [Shape.rowMajor_val_five, Shape.rowMajor_val_six]
  simp [ix5, ix6]

/-- The index words of the last lookup are the bins. -/
theorem index_apply (V0 : Valuation τ sig (Elt Ideal)) (bn : S8x32x128x128.Idx → Fin 16)
    (hb : ∀ i, Value.res_main_v20 V0 i = BitVec.ofNat 32 (bn i).val) (n : Fin 8) (c : Fin 32) (h w : Fin 128) :
    Value.res_main_call2_v5 V0 (ix6 n (0 : Fin 1) c h w (0 : Fin 1)) = BitVec.ofNat 32 (bn (ix4 n c h w)).val := by
  have h196 : Value.res_main_v196 V0 (ix5 n (0 : Fin 1) c h w) = BitVec.ofNat 32 (bn (ix4 n c h w)).val := by
    rw [← hb]
    unfold Value.res_main_v196
    exact broadcastInDim_apply _ _ _ _ (ix4 n c h w) (fun a => by
      match a with
      | ⟨0, _⟩ => rfl
      | ⟨1, _⟩ => rfl
      | ⟨2, _⟩ => rfl
      | ⟨3, _⟩ => rfl)
  unfold Value.res_main_call2_v5
  refine (unit_axis _ n c h w).trans ?_
  show Scalar.select (IntOp.cmpi .slt (Value.res_main_v196 V0 (ix5 n (0 : Fin 1) c h w)) 0#32)
    (IntOp.addi (Value.res_main_v196 V0 (ix5 n (0 : Fin 1) c h w)) 16#32) (Value.res_main_v196 V0 (ix5 n (0 : Fin 1) c h w)) = _
  rw [h196]
  exact bin_wrap _

/-- The twenty-seven parts added in the reference's order are the sum over the three shifts. -/
theorem sum_rows (T : Fin 3 → Fin 3 → Fin 3 → EReal) :
    ((((((((((((((((((((((((((((0 : EReal) + T 0 0 0) + T 0 0 1) + T 0 0 2) + T 0 1 0) + T 0 1 1) + T 0 1 2) + T 0 2 0) + T 0 2 1) + T 0 2 2)
      + T 1 0 0) + T 1 0 1) + T 1 0 2) + T 1 1 0) + T 1 1 1) + T 1 1 2) + T 1 2 0) + T 1 2 1) + T 1 2 2)
      + T 2 0 0) + T 2 0 1) + T 2 0 2) + T 2 1 0) + T 2 1 1) + T 2 1 2) + T 2 2 0) + T 2 2 1) + T 2 2 2)
      = ∑ i : Fin 3, ∑ j : Fin 3, ∑ k : Fin 3, T i j k := by
  simp only [Fin.sum_univ_three, zero_add, add_assoc]

/-- The filtered rows: the twenty-seven parts, added. -/
def filtered (V0 : Valuation τ sig (Elt Ideal)) : S8x16x32x128x128.Idx → EReal :=
  addf (addf (addf (Value.res_main_v177 V0) (mulf (broadcastInDim S8x16x32x128x128 ![] bcast_S_S8x16x32x128x128 (shapeCast S_ (extractStridedSlice S1x1x1 ![2, 2, 0] (V0 (Proc.devRef .tc main_arg2)) slices_S3x3x3_S1x1x1_2_2_0) shapeCasts_S1x1x1_S_)) (extractStridedSlice S8x16x32x128x128 ![0, 0, 2, 2, 0] (Value.res_main_v32 V0) slices_S8x16x34x130x130_S8x16x32x128x128_0_0_2_2_0))) (mulf (broadcastInDim S8x16x32x128x128 ![] bcast_S_S8x16x32x128x128 (shapeCast S_ (extractStridedSlice S1x1x1 ![2, 2, 1] (V0 (Proc.devRef .tc main_arg2)) slices_S3x3x3_S1x1x1_2_2_1) shapeCasts_S1x1x1_S_)) (extractStridedSlice S8x16x32x128x128 ![0, 0, 2, 2, 1] (Value.res_main_v32 V0) slices_S8x16x34x130x130_S8x16x32x128x128_0_0_2_2_1))) (mulf (broadcastInDim S8x16x32x128x128 ![] bcast_S_S8x16x32x128x128 (shapeCast S_ (extractStridedSlice S1x1x1 ![2, 2, 2] (V0 (Proc.devRef .tc main_arg2)) slices_S3x3x3_S1x1x1_2_2_2) shapeCasts_S1x1x1_S_)) (extractStridedSlice S8x16x32x128x128 ![0, 0, 2, 2, 2] (Value.res_main_v32 V0) slices_S8x16x34x130x130_S8x16x32x128x128_0_0_2_2_2))

/-- The filtered rows at an index: the filter against the padded neighbourhood. -/
theorem filtered_apply (V0 : Valuation τ sig (Elt Ideal)) (f : S3x3x3.Idx → EReal) (hf : V0 (Proc.devRef .tc main_arg2) = f)
    (g : Cert.KernelWIdeal.S32x128x128.Idx → EReal)
    (n : Fin 8) (r : Fin 16)
    (hz : ∀ (c : Fin 34) (h w : Fin 130), Value.res_main_v32 V0 (ix5 n r c h w) = padRead 0 g c.val h.val w.val)
    (c : Fin 32) (h w : Fin 128) :
    filtered V0 (ix5 n r c h w) = ∑ i : Fin 3, ∑ j : Fin 3, ∑ k : Fin 3,
      f (ix3 i j k) * padRead 0 g (c.val + i.val) (h.val + j.val) (w.val + k.val) := by
  rw [← sum_rows fun i j k => f (ix3 i j k)
    * padRead 0 g (c.val + i.val) (h.val + j.val) (w.val + k.val)]
  have hp := fun i j k hi hj hk h1 h2 =>
    part_apply f (Value.res_main_v32 V0) g n r hz i j k hi hj hk h1 h2 c h w
  have h0 : (broadcastInDim S8x16x32x128x128 ![] bcast_S_S8x16x32x128x128 (constant (F := Ideal) S_ .f32 0x00000000#32) (ix5 n r c h w) : EReal) = 0 :=
    (broadcastInDim_scalar_apply _ _ _).trans Ideal.ofBits_zero_f32
  unfold filtered Value.res_main_v177 Value.res_main_v105
  rw [hf]
  simp only [addf_apply]
  rw [h0]
  rw [hp 0 0 0 (by decide) (by decide) (by decide)]
  rw [hp 0 0 1 (by decide) (by decide) (by decide)]
  rw [hp 0 0 2 (by decide) (by decide) (by decide)]
  rw [hp 0 1 0 (by decide) (by decide) (by decide)]
  rw [hp 0 1 1 (by decide) (by decide) (by decide)]
  rw [hp 0 1 2 (by decide) (by decide) (by decide)]
  rw [hp 0 2 0 (by decide) (by decide) (by decide)]
  rw [hp 0 2 1 (by decide) (by decide) (by decide)]
  rw [hp 0 2 2 (by decide) (by decide) (by decide)]
  rw [hp 1 0 0 (by decide) (by decide) (by decide)]
  rw [hp 1 0 1 (by decide) (by decide) (by decide)]
  rw [hp 1 0 2 (by decide) (by decide) (by decide)]
  rw [hp 1 1 0 (by decide) (by decide) (by decide)]
  rw [hp 1 1 1 (by decide) (by decide) (by decide)]
  rw [hp 1 1 2 (by decide) (by decide) (by decide)]
  rw [hp 1 2 0 (by decide) (by decide) (by decide)]
  rw [hp 1 2 1 (by decide) (by decide) (by decide)]
  rw [hp 1 2 2 (by decide) (by decide) (by decide)]
  rw [hp 2 0 0 (by decide) (by decide) (by decide)]
  rw [hp 2 0 1 (by decide) (by decide) (by decide)]
  rw [hp 2 0 2 (by decide) (by decide) (by decide)]
  rw [hp 2 1 0 (by decide) (by decide) (by decide)]
  rw [hp 2 1 1 (by decide) (by decide) (by decide)]
  rw [hp 2 1 2 (by decide) (by decide) (by decide)]
  rw [hp 2 2 0 (by decide) (by decide) (by decide)]
  rw [hp 2 2 1 (by decide) (by decide) (by decide)]
  rw [hp 2 2 2 (by decide) (by decide) (by decide)]
  rfl

end Cert.ReferenceWIdeal.Hand

end
-- ==== Proof.RefRun.lean ====
module

public import proofs.«01_k».proof.Proof.RefValue

@[expose] public section

set_option maxRecDepth 16384

noncomputable section

namespace Cert.ReferenceWIdeal.Hand

open Idealize.ShloMosaic hiding ix0 ix1 ix2 ix3 ix4 ix5 ix6 eq_ix1 eq_ix2 eq_ix3 eq_ix4 eq_ix5 eq_ix6
open Idealize.ShloMosaic.TcCoe Idealize.ShloMosaic.ValueIdx Cert.ReferenceWIdeal Cert.ReferenceWIdeal.Gen
open Cert.KernelWIdeal.Hand (weightAt bin padRead pixel minOf maxOf answer)

/-- The weight table of the reference, from the packed words. -/
def table (tab : Vec Ideal S1x128 .i32) : S16x16.Idx → EReal :=
  shapeCast S16x16 (concatenate S1x128x2 2
        [⟨S1x128x1, (broadcastInDim S1x128x1 ![0, 1] bcast_S1x128_S1x128x1_0_1 (bitcastToFloat (F := Ideal) .f32
          (Host.shli tab (broadcastInDim S1x128 ![] bcast_S_S1x128 (constantI S_ 32 16#32)))))⟩,
         ⟨S1x128x1, (broadcastInDim S1x128x1 ![0, 1] bcast_S1x128_S1x128x1_0_1 (bitcastToFloat (F := Ideal) .f32
          (andi tab (broadcastInDim S1x128 ![] bcast_S_S1x128 (constantI S_ 32 4294901760#32)))))⟩]
        concatenates_S1x128x1_S1x128x1_S1x128x2_d2) shapeCasts_S1x128x2_S16x16

/-- The padded array the run computes is the weighted array of the table, the bins and the operand. -/
theorem padded_eq (V0 : Valuation τ sig (Elt Ideal)) (x : S8x32x128x128.Idx → EReal) (hx : V0 (Proc.devRef .tc main_arg0) = x)
    (tab : Vec Ideal S1x128 .i32) (ht : V0 (Proc.devRef .tc main_arg1) = tab) :
    Value.res_main_v32 V0 = weighted (table tab) (Value.res_main_v20 V0) x := by
  subst hx
  subst ht
  rfl

/-- The reference's result at a pixel. -/
theorem result_apply (V0 : Valuation τ sig (Elt Ideal)) (x : S8x32x128x128.Idx → EReal) (hx : V0 (Proc.devRef .tc main_arg0) = x)
    (tab : Vec Ideal S1x128 .i32) (ht : V0 (Proc.devRef .tc main_arg1) = tab)
    (f : S3x3x3.Idx → EReal) (hf : V0 (Proc.devRef .tc main_arg2) = f) (n : Fin 8) (c : Fin 32) (h w : Fin 128) :
    finished (filtered V0) (Value.res_main_call2_v5 V0) (ix4 n c h w) = answer x tab f (ix4 n c h w) := by
  have hb : ∀ i, Value.res_main_v20 V0 i = BitVec.ofNat 32 (bin (minOf x) (maxOf x) (x i)).val := by
    subst hx
    exact bins_apply V0
  rw [finished_apply _ _ (fun i => bin (minOf x) (maxOf x) (x i)) (index_apply V0 _ hb)]
  have hz : ∀ (c' : Fin 34) (h' w' : Fin 130), Value.res_main_v32 V0 (ix5 n (bin (minOf x) (maxOf x) (x (ix4 n c h w))) c' h' w')
      = padRead 0 (fun y : Cert.KernelWIdeal.S32x128x128.Idx =>
          (weightAt (F := Ideal) tab (bin (minOf x) (maxOf x) (x (ix4 n c h w))) (bin (minOf x) (maxOf x) (x (ix4 n (y 0) (y 1) (y 2)))) : EReal)
            * x (ix4 n (y 0) (y 1) (y 2))) c'.val h'.val w'.val := by
    intro c' h' w'
    rw [padded_eq V0 x hx tab ht, weighted_apply _ _ _ hb]
    congr 1
    funext y
    exact congrArg (· * x (ix4 n (y 0) (y 1) (y 2))) (table_apply tab _ _)
  exact filtered_apply V0 f hf _ n _ hz c h w

/-- The reference's result is the answer. -/
theorem result_eq (V0 : Valuation τ sig (Elt Ideal)) (x : S8x32x128x128.Idx → EReal) (hx : V0 (Proc.devRef .tc main_arg0) = x)
    (tab : Vec Ideal S1x128 .i32) (ht : V0 (Proc.devRef .tc main_arg1) = tab)
    (f : S3x3x3.Idx → EReal) (hf : V0 (Proc.devRef .tc main_arg2) = f) :
    finished (filtered V0) (Value.res_main_call2_v5 V0) = answer x tab f := by
  funext i
  rw [eq_ix4 i]
  exact result_apply V0 x hx tab ht f hf _ _ _ _

/-- The reference's run: the answer in its result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198) = answer (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans
    (result_eq (StableHlo.launchContents m c) (m ((c.tc : Thread nD τ).loc main_arg0)) rfl (m ((c.tc : Thread nD τ).loc main_arg1)) rfl (m ((c.tc : Thread nD τ).loc main_arg2)) rfl), (h c).2⟩) (Value.run (F := Ideal) m ρ)

end Cert.ReferenceWIdeal.Hand

end
-- ==== Proof.lean ====
module

public import proofs.«01_k».proof.Defs
public import proofs.«01_k».proof.Proof.Gen.KernelW
public import proofs.«01_k».proof.Proof.Gen.KernelW.Skeleton
public import proofs.«01_k».proof.Proof.Gen.KernelW.Launch
public import proofs.«01_k».proof.Proof.Gen.KernelW.Points
public import proofs.«01_k».proof.Proof.Gen.KernelW.Frame
public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Adequacy
public import Idealize.ShloMosaic.Init
public import proofs.«01_k».proof.Proof.Gen.ReferenceWIdeal.Run
public import proofs.«01_k».proof.Proof.KernelIdeal
public import proofs.«01_k».proof.Proof.RefRun

@[expose] public section

noncomputable section

namespace Cert.Proof

open Idealize.ShloMosaic Idealize.SL.Sem Cert.KernelW

/-- The reference's frame: its run keeps the arguments, and it declares no semaphore. -/
theorem frame_reference : Cert.quiescent_ReferenceWIdeal := fun m ρ _ =>
  (θ_run Cert.ReferenceWIdeal.defs _ _).mono (fun r h => ⟨fun c => (h c).2,
      Idealize.ShloMosaic.sem_eq_zero_of_no_sems (by decide) r.2⟩)
    (Cert.ReferenceWIdeal.Hand.run m ρ)

/-- The value claim: from arguments that agree, the kernel and the reference both end at the answer. -/
theorem algebraic : Cert.algebraic_KernelWIdeal_ReferenceWIdeal := by
  intro m ρ m' ρ' _ hagree
  refine ⟨fun c => Cert.KernelWIdeal.Hand.answer
    (m ((c.tc : Thread Cert.KernelWIdeal.nD Cert.KernelWIdeal.τ).loc Cert.KernelWIdeal.main_arg0))
    (m ((c.tc : Thread Cert.KernelWIdeal.nD Cert.KernelWIdeal.τ).loc Cert.KernelWIdeal.main_arg1))
    (m ((c.tc : Thread Cert.KernelWIdeal.nD Cert.KernelWIdeal.τ).loc Cert.KernelWIdeal.main_arg2)), ?_, ?_⟩
  · exact (θ_run Cert.KernelWIdeal.defs _ _).mono
      (fun _ h c => ⟨(h c).1.trans (Cert.KernelWIdeal.Hand.kernelOut_eq m c), (h c).2⟩)
      (Cert.KernelWIdeal.Hand.run (F := Ideal) m ρ)
  · refine (θ_run Cert.ReferenceWIdeal.defs _ _).mono (fun _ h c => ⟨(h c).1.trans ?_, (h c).2⟩)
      (Cert.ReferenceWIdeal.Hand.run m' ρ')
    rw [(hagree c).1, (hagree c).2.1, (hagree c).2.2]

/-- Every claim of the certificate. -/
theorem claim : Cert.Claim := ⟨Cert.KernelW.Gen.facts, Cert.KernelWIdeal.Gen.facts, Cert.ReferenceWIdeal.Gen.facts, Cert.Kernel.Gen.facts,
  fun m ρ _ => Cert.KernelW.Gen.frame m ρ, fun m ρ _ => Cert.KernelWIdeal.Gen.frame m ρ, frame_reference,
  fun m ρ _ => Cert.Kernel.Gen.frame m ρ, trivial, algebraic⟩

end Cert.Proof

end
